-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_values) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S16x5000x80 : Shape := ⟨3, ![16, 5000, 80]⟩
abbrev S16x5000x4 : Shape := ⟨3, ![16, 5000, 4]⟩
abbrev S16x2 : Shape := ⟨2, ![16, 2]⟩
abbrev S16x40x125x80 : Shape := ⟨4, ![16, 40, 125, 80]⟩
abbrev S16x1x2 : Shape := ⟨3, ![16, 1, 2]⟩
abbrev S16x304x1 : Shape := ⟨3, ![16, 304, 1]⟩
abbrev S16x300x1 : Shape := ⟨3, ![16, 300, 1]⟩
abbrev S1x40x125x80 : Shape := ⟨4, ![1, 40, 125, 80]⟩
abbrev S1x5000x80 : Shape := ⟨3, ![1, 5000, 80]⟩
abbrev S16x40x125 : Shape := ⟨3, ![16, 40, 125]⟩
abbrev S1x40x125 : Shape := ⟨3, ![1, 40, 125]⟩
abbrev S40x125 : Shape := ⟨2, ![40, 125]⟩
abbrev S1x80 : Shape := ⟨2, ![1, 80]⟩
abbrev S16 : Shape := ⟨1, ![16]⟩
abbrev S16x1x1 : Shape := ⟨3, ![16, 1, 1]⟩
abbrev S1x1x1 : Shape := ⟨3, ![1, 1, 1]⟩
abbrev S1x1 : Shape := ⟨2, ![1, 1]⟩
abbrev S1 : Shape := ⟨1, ![1]⟩
abbrev S1x1x80 : Shape := ⟨3, ![1, 1, 80]⟩
abbrev S16x300x4 : Shape := ⟨3, ![16, 300, 4]⟩
abbrev S1x5000x4 : Shape := ⟨3, ![1, 5000, 4]⟩
abbrev S1x304x1 : Shape := ⟨3, ![1, 304, 1]⟩
abbrev S1x1x2 : Shape := ⟨3, ![1, 1, 2]⟩
abbrev S1x300x4 : Shape := ⟨3, ![1, 300, 4]⟩
abbrev S1x300x1 : Shape := ⟨3, ![1, 300, 1]⟩
abbrev S304x1 : Shape := ⟨2, ![304, 1]⟩
abbrev S300x1 : Shape := ⟨2, ![300, 1]⟩
abbrev S304x5000 : Shape := ⟨2, ![304, 5000]⟩
abbrev S5000x4 : Shape := ⟨2, ![5000, 4]⟩
abbrev S304x4 : Shape := ⟨2, ![304, 4]⟩
abbrev S1x2 : Shape := ⟨2, ![1, 2]⟩
abbrev S1x4 : Shape := ⟨2, ![1, 4]⟩
abbrev S304x2 : Shape := ⟨2, ![304, 2]⟩
abbrev S300x4 : Shape := ⟨2, ![300, 4]⟩
abbrev S16x300 : Shape := ⟨2, ![16, 300]⟩

abbrev nBuf : Space → Nat
  | .hbm => 11
  | .vmem => 18
  | .smem => 0
  | _ => 0

abbrev bufTy : (tb : Table) → Fin (tcTables nBuf tb) → BufTy
  | .hbm, ⟨0, _⟩ => ⟨S16x5000x80, .f32⟩
  | .hbm, ⟨1, _⟩ => ⟨S16x5000x4, .f32⟩
  | .hbm, ⟨2, _⟩ => ⟨S16x2, .i32⟩
  | .hbm, ⟨3, _⟩ => ⟨S16x40x125x80, .f32⟩
  | .hbm, ⟨4, _⟩ => ⟨S16x1x2, .i32⟩
  | .hbm, ⟨5, _⟩ => ⟨S16x304x1, .i32⟩
  | .hbm, ⟨6, _⟩ => ⟨S16x300x1, .f32⟩
  | .hbm, ⟨7, _⟩ => ⟨S16x300x4, .f32⟩
  | .hbm, ⟨8, _⟩ => ⟨S16x300x1, .i32⟩
  | .hbm, ⟨9, _⟩ => ⟨S16x300, .i32⟩
  | .hbm, ⟨10, _⟩ => ⟨S16x300, .f32⟩
  | .local _ .vmem, ⟨0, _⟩ => ⟨S1x40x125x80, .f32⟩
  | .local _ .vmem, ⟨1, _⟩ => ⟨S1x40x125x80, .f32⟩
  | .local _ .vmem, ⟨2, _⟩ => ⟨S1x5000x80, .f32⟩
  | .local _ .vmem, ⟨3, _⟩ => ⟨S1x5000x80, .f32⟩
  | .local _ .vmem, ⟨4, _⟩ => ⟨S16x304x1, .i32⟩
  | .local _ .vmem, ⟨5, _⟩ => ⟨S16x300x1, .f32⟩
  | .local _ .vmem, ⟨6, _⟩ => ⟨S16x5000x80, .f32⟩
  | .local _ .vmem, ⟨7, _⟩ => ⟨S16x40x125, .f32⟩
  | .local _ .vmem, ⟨8, _⟩ => ⟨S1x5000x4, .f32⟩
  | .local _ .vmem, ⟨9, _⟩ => ⟨S1x5000x4, .f32⟩
  | .local _ .vmem, ⟨10, _⟩ => ⟨S1x304x1, .i32⟩
  | .local _ .vmem, ⟨11, _⟩ => ⟨S1x304x1, .i32⟩
  | .local _ .vmem, ⟨12, _⟩ => ⟨S1x1x2, .i32⟩
  | .local _ .vmem, ⟨13, _⟩ => ⟨S1x1x2, .i32⟩
  | .local _ .vmem, ⟨14, _⟩ => ⟨S1x300x4, .f32⟩
  | .local _ .vmem, ⟨15, _⟩ => ⟨S1x300x4, .f32⟩
  | .local _ .vmem, ⟨16, _⟩ => ⟨S1x300x1, .i32⟩
  | .local _ .vmem, ⟨17, _⟩ => ⟨S1x300x1, .i32⟩
  | _, _ => ⟨S16x5000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let v14 : Index := Scalar.indexCast arg0
  let c0_6 : Index := 0#32
  let c0_7 : Index := 0#32
  ![v14.toNat, 0, 0]
def k0_off2 (i : grid0.Coords) : Fin 3 → Nat :=
  let arg0 : BitVec 32 := BitVec.ofNat 32 (i 0).val
  let v28 : Index := Scalar.indexCast arg0
  let c0_16 : Index := 0#32
  let c0_17 : Index := 0#32
  ![v28.toNat, 0, 0]
def k0_cond2 (i : grid0.Coords) : BitVec 1 :=
  let arg0 : BitVec 32 := BitVec.ofNat 32 (i 0).val
  let c16_i32_0 : BitVec 32 := 16#32
  let v3 : BitVec 1 := Scalar.cmpi .eq arg0 c16_i32_0
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_5 : BitVec 32 := 0#32
  let c300_i32 : BitVec 32 := 300#32
  let v15 : BitVec 32 := Scalar.addi c0_i32_5 c300_i32
  let c1_i32 : BitVec 32 := 1#32
  ⟨c0_i32_5, v15, c1_i32⟩
def k0_off3 (v40 : BitVec 32) : Fin 3 → Nat :=
  let c0_14 : Index := 0#32
  let v41 : Index := Scalar.indexCast v40
  let c0_15 : Index := 0#32
  ![0, v41.toNat, 0]

def k0_chk1 (i : grid0.Coords) (v40 : BitVec 32) : Prop :=
  (∀ (k0_h2 : k0_cond2 i = 1#1), ∀ a, (k0_off3 v40) a + S1x1x80.size a ≤ S16x5000x80.size a)
theorem k0_off3_inb : ∀ (i : grid0.Coords) (v40 : BitVec 32) (k0_hw1 : k0_chk1 i v40), ∀ (k0_h2 : k0_cond2 i = 1#1), ∀ a, (k0_off3 v40) a + S1x1x80.size a ≤ S16x5000x80.size a := fun i v40 k0_hw1 k0_h2 => k0_hw1 k0_h2

def k0_off4 (k0_t1 : Fin k0_t1_loop.trips) : Fin 3 → Nat :=
  let c0_24 : Index := 0#32
  let c0_i32_5 : BitVec 32 := 0#32
  let c1_i32 : BitVec 32 := 1#32
  let arg7 : BitVec 32 := Scf.iv c0_i32_5 c1_i32 k0_t1
  let v74 : Index := Scalar.indexCast arg7
  let c0_25 : Index := 0#32
  ![0, v74.toNat, 0]
def k0_off5 (k0_t1 : Fin k0_t1_loop.trips) : Fin 3 → Nat :=
  let c0_26 : Index := 0#32
  let c0_i32_5 : BitVec 32 := 0#32
  let c1_i32 : BitVec 32 := 1#32
  let arg7 : BitVec 32 := Scf.iv c0_i32_5 c1_i32 k0_t1
  let v79 : Index := Scalar.indexCast arg7
  let c0_27 : Index := 0#32
  ![0, v79.toNat, 0]
def k0_off6 (v96 : BitVec 32) : Fin 3 → Nat :=
  let c1 : Index := 1#32
  let v97 : Index := Scalar.indexCast v96
  let c0_30 : Index := 0#32
  ![1, v97.toNat, 0]

def k0_chk2 (i : grid0.Coords) (v96 : BitVec 32) : Prop :=
  (∀ (k0_h2 : k0_cond2 i = 1#1), ∀ a, (k0_off6 v96) a + S1x1x80.size a ≤ S16x5000x80.size a)
theorem k0_off6_inb : ∀ (i : grid0.Coords) (v96 : BitVec 32) (k0_hw2 : k0_chk2 i v96), ∀ (k0_h2 : k0_cond2 i = 1#1), ∀ a, (k0_off6 v96) a + S1x1x80.size a ≤ S16x5000x80.size a := fun i v96 k0_hw2 k0_h2 => k0_hw2 k0_h2

def k0_off7 (k0_t1 : Fin k0_t1_loop.trips) : Fin 3 → Nat :=
  let c1_40 : Index := 1#32
  let c0_i32_5 : BitVec 32 := 0#32
  let c1_i32 : BitVec 32 := 1#32
  let arg7 : BitVec 32 := Scf.iv c0_i32_5 c1_i32 k0_t1
  let v130 : Index := Scalar.indexCast arg7
  let c0_41 : Index := 0#32
  ![1, v130.toNat, 0]
def k0_off8 (k0_t1 : Fin k0_t1_loop.trips) : Fin 3 → Nat :=
  let c1_42 : Index := 1#32
  let c0_i32_5 : BitVec 32 := 0#32
  let c1_i32 : BitVec 32 := 1#32
  let arg7 : BitVec 32 := Scf.iv c0_i32_5 c1_i32 k0_t1
  let v135 : Index := Scalar.indexCast arg7
  let c0_43 : Index := 0#32
  ![1, v135.toNat, 0]
def k0_off9 (v152 : BitVec 32) : Fin 3 → Nat :=
  let c2 : Index := 2#32
  let v153 : Index := Scalar.indexCast v152
  let c0_46 : Index := 0#32
  ![2, v153.toNat, 0]

def k0_chk3 (i : grid0.Coords) (v152 : BitVec 32) : Prop :=
  (∀ (k0_h2 : k0_cond2 i = 1#1), ∀ a, (k0_off9 v152) a + S1x1x80.size a ≤ S16x5000x80.size a)
theorem k0_off9_inb : ∀ (i : grid0.Coords) (v152 : BitVec 32) (k0_hw3 : k0_chk3 i v152), ∀ (k0_h2 : k0_cond2 i = 1#1), ∀ a, (k0_off9 v152) a + S1x1x80.size a ≤ S16x5000x80.size a := fun i v152 k0_hw3 k0_h2 => k0_hw3 k0_h2

def k0_off10 (k0_t1 : Fin k0_t1_loop.trips) : Fin 3 → Nat :=
  let c2_56 : Index := 2#32
  let c0_i32_5 : BitVec 32 := 0#32
  let c1_i32 : BitVec 32 := 1#32
  let arg7 : BitVec 32 := Scf.iv c0_i32_5 c1_i32 k0_t1
  let v186 : Index := Scalar.indexCast arg7
  let c0_57 : Index := 0#32
  ![2, v186.toNat, 0]
def k0_off11 (k0_t1 : Fin k0_t1_loop.trips) : Fin 3 → Nat :=
  let c2_58 : Index := 2#32
  let c0_i32_5 : BitVec 32 := 0#32
  let c1_i32 : BitVec 32 := 1#32
  let arg7 : BitVec 32 := Scf.iv c0_i32_5 c1_i32 k0_t1
  let v191 : Index := Scalar.indexCast arg7
  let c0_59 : Index := 0#32
  ![2, v191.toNat, 0]
def k0_off12 (v208 : BitVec 32) : Fin 3 → Nat :=
  let c3 : Index := 3#32
  let v209 : Index := Scalar.indexCast v208
  let c0_62 : Index := 0#32
  ![3, v209.toNat, 0]

def k0_chk4 (i : grid0.Coords) (v208 : BitVec 32) : Prop :=
  (∀ (k0_h2 : k0_cond2 i = 1#1), ∀ a, (k0_off12 v208) a + S1x1x80.size a ≤ S16x5000x80.size a)
theorem k0_off12_inb : ∀ (i : grid0.Coords) (v208 : BitVec 32) (k0_hw4 : k0_chk4 i v208), ∀ (k0_h2 : k0_cond2 i = 1#1), ∀ a, (k0_off12 v208) a + S1x1x80.size a ≤ S16x5000x80.size a := fun i v208 k0_hw4 k0_h2 => k0_hw4 k0_h2

def k0_off13 (k0_t1 : Fin k0_t1_loop.trips) : Fin 3 → Nat :=
  let c3_72 : Index := 3#32
  let c0_i32_5 : BitVec 32 := 0#32
  let c1_i32 : BitVec 32 := 1#32
  let arg7 : BitVec 32 := Scf.iv c0_i32_5 c1_i32 k0_t1
  let v242 : Index := Scalar.indexCast arg7
  let c0_73 : Index := 0#32
  ![3, v242.toNat, 0]
def k0_off14 (k0_t1 : Fin k0_t1_loop.trips) : Fin 3 → Nat :=
  let c3_74 : Index := 3#32
  let c0_i32_5 : BitVec 32 := 0#32
  let c1_i32 : BitVec 32 := 1#32
  let arg7 : BitVec 32 := Scf.iv c0_i32_5 c1_i32 k0_t1
  let v247 : Index := Scalar.indexCast arg7
  let c0_75 : Index := 0#32
  ![3, v247.toNat, 0]
def k0_off15 (v264 : BitVec 32) : Fin 3 → Nat :=
  let c4 : Index := 4#32
  let v265 : Index := Scalar.indexCast v264
  let c0_78 : Index := 0#32
  ![4, v265.toNat, 0]

def k0_chk5 (i : grid0.Coords) (v264 : BitVec 32) : Prop :=
  (∀ (k0_h2 : k0_cond2 i = 1#1), ∀ a, (k0_off15 v264) a + S1x1x80.size a ≤ S16x5000x80.size a)
theorem k0_off15_inb : ∀ (i : grid0.Coords) (v264 : BitVec 32) (k0_hw5 : k0_chk5 i v264), ∀ (k0_h2 : k0_cond2 i = 1#1), ∀ a, (k0_off15 v264) a + S1x1x80.size a ≤ S16x5000x80.size a := fun i v264 k0_hw5 k0_h2 => k0_hw5 k0_h2

def k0_off16 (k0_t1 : Fin k0_t1_loop.trips) : Fin 3 → Nat :=
  let c4_88 : Index := 4#32
  let c0_i32_5 : BitVec 32 := 0#32
  let c1_i32 : BitVec 32 := 1#32
  let arg7 : BitVec 32 := Scf.iv c0_i32_5 c1_i32 k0_t1
  let v298 : Index := Scalar.indexCast arg7
  let c0_89 : Index := 0#32
  ![4, v298.toNat, 0]
def k0_off17 (k0_t1 : Fin k0_t1_loop.trips) : Fin 3 → Nat :=
  let c4_90 : Index := 4#32
  let c0_i32_5 : BitVec 32 := 0#32
  let c1_i32 : BitVec 32 := 1#32
  let arg7 : BitVec 32 := Scf.iv c0_i32_5 c1_i32 k0_t1
  let v303 : Index := Scalar.indexCast arg7
  let c0_91 : Index := 0#32
  ![4, v303.toNat, 0]
def k0_off18 (v320 : BitVec 32) : Fin 3 → Nat :=
  let c5 : Index := 5#32
  let v321 : Index := Scalar.indexCast v320
  let c0_94 : Index := 0#32
  ![5, v321.toNat, 0]

def k0_chk6 (i : grid0.Coords) (v320 : BitVec 32) : Prop :=
  (∀ (k0_h2 : k0_cond2 i = 1#1), ∀ a, (k0_off18 v320) a + S1x1x80.size a ≤ S16x5000x80.size a)
theorem k0_off18_inb : ∀ (i : grid0.Coords) (v320 : BitVec 32) (k0_hw6 : k0_chk6 i v320), ∀ (k0_h2 : k0_cond2 i = 1#1), ∀ a, (k0_off18 v320) a + S1x1x80.size a ≤ S16x5000x80.size a := fun i v320 k0_hw6 k0_h2 => k0_hw6 k0_h2

def k0_off19 (k0_t1 : Fin k0_t1_loop.trips) : Fin 3 → Nat :=
  let c5_104 : Index := 5#32
  let c0_i32_5 : BitVec 32 := 0#32
  let c1_i32 : BitVec 32 := 1#32
  let arg7 : BitVec 32 := Scf.iv c0_i32_5 c1_i32 k0_t1
  let v354 : Index := Scalar.indexCast arg7
  let c0_105 : Index := 0#32
  ![5, v354.toNat, 0]
def k0_off20 (k0_t1 : Fin k0_t1_loop.trips) : Fin 3 → Nat :=
  let c5_106 : Index := 5#32
  let c0_i32_5 : BitVec 32 := 0#32
  let c1_i32 : BitVec 32 := 1#32
  let arg7 : BitVec 32 := Scf.iv c0_i32_5 c1_i32 k0_t1
  let v359 : Index := Scalar.indexCast arg7
  let c0_107 : Index := 0#32
  ![5, v359.toNat, 0]
def k0_off21 (v376 : BitVec 32) : Fin 3 → Nat :=
  let c6 : Index := 6#32
  let v377 : Index := Scalar.indexCast v376
  let c0_110 : Index := 0#32
  ![6, v377.toNat, 0]

def k0_chk7 (i : grid0.Coords) (v376 : BitVec 32) : Prop :=
  (∀ (k0_h2 : k0_cond2 i = 1#1), ∀ a, (k0_off21 v376) a + S1x1x80.size a ≤ S16x5000x80.size a)
theorem k0_off21_inb : ∀ (i : grid0.Coords) (v376 : BitVec 32) (k0_hw7 : k0_chk7 i v376), ∀ (k0_h2 : k0_cond2 i = 1#1), ∀ a, (k0_off21 v376) a + S1x1x80.size a ≤ S16x5000x80.size a := fun i v376 k0_hw7 k0_h2 => k0_hw7 k0_h2

def k0_off22 (k0_t1 : Fin k0_t1_loop.trips) : Fin 3 → Nat :=
  let c6_120 : Index := 6#32
  let c0_i32_5 : BitVec 32 := 0#32
  let c1_i32 : BitVec 32 := 1#32
  let arg7 : BitVec 32 := Scf.iv c0_i32_5 c1_i32 k0_t1
  let v410 : Index := Scalar.indexCast arg7
  let c0_121 : Index := 0#32
  ![6, v410.toNat, 0]
def k0_off23 (k0_t1 : Fin k0_t1_loop.trips) : Fin 3 → Nat :=
  let c6_122 : Index := 6#32
  let c0_i32_5 : BitVec 32 := 0#32
  let c1_i32 : BitVec 32 := 1#32
  let arg7 : BitVec 32 := Scf.iv c0_i32_5 c1_i32 k0_t1
  let v415 : Index := Scalar.indexCast arg7
  let c0_123 : Index := 0#32
  ![6, v415.toNat, 0]
def k0_off24 (v432 : BitVec 32) : Fin 3 → Nat :=
  let c7 : Index := 7#32
  let v433 : Index := Scalar.indexCast v432
  let c0_126 : Index := 0#32
  ![7, v433.toNat, 0]

def k0_chk8 (i : grid0.Coords) (v432 : BitVec 32) : Prop :=
  (∀ (k0_h2 : k0_cond2 i = 1#1), ∀ a, (k0_off24 v432) a + S1x1x80.size a ≤ S16x5000x80.size a)
theorem k0_off24_inb : ∀ (i : grid0.Coords) (v432 : BitVec 32) (k0_hw8 : k0_chk8 i v432), ∀ (k0_h2 : k0_cond2 i = 1#1), ∀ a, (k0_off24 v432) a + S1x1x80.size a ≤ S16x5000x80.size a := fun i v432 k0_hw8 k0_h2 => k0_hw8 k0_h2

def k0_off25 (k0_t1 : Fin k0_t1_loop.trips) : Fin 3 → Nat :=
  let c7_136 : Index := 7#32
  let c0_i32_5 : BitVec 32 := 0#32
  let c1_i32 : BitVec 32 := 1#32
  let arg7 : BitVec 32 := Scf.iv c0_i32_5 c1_i32 k0_t1
  let v466 : Index := Scalar.indexCast arg7
  let c0_137 : Index := 0#32
  ![7, v466.toNat, 0]
def k0_off26 (k0_t1 : Fin k0_t1_loop.trips) : Fin 3 → Nat :=
  let c7_138 : Index := 7#32
  let c0_i32_5 : BitVec 32 := 0#32
  let c1_i32 : BitVec 32 := 1#32
  let arg7 : BitVec 32 := Scf.iv c0_i32_5 c1_i32 k0_t1
  let v471 : Index := Scalar.indexCast arg7
  let c0_139 : Index := 0#32
  ![7, v471.toNat, 0]
def k0_off27 (v488 : BitVec 32) : Fin 3 → Nat :=
  let c8 : Index := 8#32
  let v489 : Index := Scalar.indexCast v488
  let c0_142 : Index := 0#32
  ![8, v489.toNat, 0]

def k0_chk9 (i : grid0.Coords) (v488 : BitVec 32) : Prop :=
  (∀ (k0_h2 : k0_cond2 i = 1#1), ∀ a, (k0_off27 v488) a + S1x1x80.size a ≤ S16x5000x80.size a)
theorem k0_off27_inb : ∀ (i : grid0.Coords) (v488 : BitVec 32) (k0_hw9 : k0_chk9 i v488), ∀ (k0_h2 : k0_cond2 i = 1#1), ∀ a, (k0_off27 v488) a + S1x1x80.size a ≤ S16x5000x80.size a := fun i v488 k0_hw9 k0_h2 => k0_hw9 k0_h2

def k0_off28 (k0_t1 : Fin k0_t1_loop.trips) : Fin 3 → Nat :=
  let c8_152 : Index := 8#32
  let c0_i32_5 : BitVec 32 := 0#32
  let c1_i32 : BitVec 32 := 1#32
  let arg7 : BitVec 32 := Scf.iv c0_i32_5 c1_i32 k0_t1
  let v522 : Index := Scalar.indexCast arg7
  let c0_153 : Index := 0#32
  ![8, v522.toNat, 0]
def k0_off29 (k0_t1 : Fin k0_t1_loop.trips) : Fin 3 → Nat :=
  let c8_154 : Index := 8#32
  let c0_i32_5 : BitVec 32 := 0#32
  let c1_i32 : BitVec 32 := 1#32
  let arg7 : BitVec 32 := Scf.iv c0_i32_5 c1_i32 k0_t1
  let v527 : Index := Scalar.indexCast arg7
  let c0_155 : Index := 0#32
  ![8, v527.toNat, 0]
def k0_off30 (v544 : BitVec 32) : Fin 3 → Nat :=
  let c9 : Index := 9#32
  let v545 : Index := Scalar.indexCast v544
  let c0_158 : Index := 0#32
  ![9, v545.toNat, 0]

def k0_chk10 (i : grid0.Coords) (v544 : BitVec 32) : Prop :=
  (∀ (k0_h2 : k0_cond2 i = 1#1), ∀ a, (k0_off30 v544) a + S1x1x80.size a ≤ S16x5000x80.size a)
theorem k0_off30_inb : ∀ (i : grid0.Coords) (v544 : BitVec 32) (k0_hw10 : k0_chk10 i v544), ∀ (k0_h2 : k0_cond2 i = 1#1), ∀ a, (k0_off30 v544) a + S1x1x80.size a ≤ S16x5000x80.size a := fun i v544 k0_hw10 k0_h2 => k0_hw10 k0_h2

def k0_off31 (k0_t1 : Fin k0_t1_loop.trips) : Fin 3 → Nat :=
  let c9_168 : Index := 9#32
  let c0_i32_5 : BitVec 32 := 0#32
  let c1_i32 : BitVec 32 := 1#32
  let arg7 : BitVec 32 := Scf.iv c0_i32_5 c1_i32 k0_t1
  let v578 : Index := Scalar.indexCast arg7
  let c0_169 : Index := 0#32
  ![9, v578.toNat, 0]
def k0_off32 (k0_t1 : Fin k0_t1_loop.trips) : Fin 3 → Nat :=
  let c9_170 : Index := 9#32
  let c0_i32_5 : BitVec 32 := 0#32
  let c1_i32 : BitVec 32 := 1#32
  let arg7 : BitVec 32 := Scf.iv c0_i32_5 c1_i32 k0_t1
  let v583 : Index := Scalar.indexCast arg7
  let c0_171 : Index := 0#32
  ![9, v583.toNat, 0]
def k0_off33 (v600 : BitVec 32) : Fin 3 → Nat :=
  let c10 : Index := 10#32
  let v601 : Index := Scalar.indexCast v600
  let c0_174 : Index := 0#32
  ![10, v601.toNat, 0]

def k0_chk11 (i : grid0.Coords) (v600 : BitVec 32) : Prop :=
  (∀ (k0_h2 : k0_cond2 i = 1#1), ∀ a, (k0_off33 v600) a + S1x1x80.size a ≤ S16x5000x80.size a)
theorem k0_off33_inb : ∀ (i : grid0.Coords) (v600 : BitVec 32) (k0_hw11 : k0_chk11 i v600), ∀ (k0_h2 : k0_cond2 i = 1#1), ∀ a, (k0_off33 v600) a + S1x1x80.size a ≤ S16x5000x80.size a := fun i v600 k0_hw11 k0_h2 => k0_hw11 k0_h2

def k0_off34 (k0_t1 : Fin k0_t1_loop.trips) : Fin 3 → Nat :=
  let c10_184 : Index := 10#32
  let c0_i32_5 : BitVec 32 := 0#32
  let c1_i32 : BitVec 32 := 1#32
  let arg7 : BitVec 32 := Scf.iv c0_i32_5 c1_i32 k0_t1
  let v634 : Index := Scalar.indexCast arg7
  let c0_185 : Index := 0#32
  ![10, v634.toNat, 0]
def k0_off35 (k0_t1 : Fin k0_t1_loop.trips) : Fin 3 → Nat :=
  let c10_186 : Index := 10#32
  let c0_i32_5 : BitVec 32 := 0#32
  let c1_i32 : BitVec 32 := 1#32
  let arg7 : BitVec 32 := Scf.iv c0_i32_5 c1_i32 k0_t1
  let v639 : Index := Scalar.indexCast arg7
  let c0_187 : Index := 0#32
  ![10, v639.toNat, 0]
def k0_off36 (v656 : BitVec 32) : Fin 3 → Nat :=
  let c11 : Index := 11#32
  let v657 : Index := Scalar.indexCast v656
  let c0_190 : Index := 0#32
  ![11, v657.toNat, 0]

def k0_chk12 (i : grid0.Coords) (v656 : BitVec 32) : Prop :=
  (∀ (k0_h2 : k0_cond2 i = 1#1), ∀ a, (k0_off36 v656) a + S1x1x80.size a ≤ S16x5000x80.size a)
theorem k0_off36_inb : ∀ (i : grid0.Coords) (v656 : BitVec 32) (k0_hw12 : k0_chk12 i v656), ∀ (k0_h2 : k0_cond2 i = 1#1), ∀ a, (k0_off36 v656) a + S1x1x80.size a ≤ S16x5000x80.size a := fun i v656 k0_hw12 k0_h2 => k0_hw12 k0_h2

def k0_off37 (k0_t1 : Fin k0_t1_loop.trips) : Fin 3 → Nat :=
  let c11_200 : Index := 11#32
  let c0_i32_5 : BitVec 32 := 0#32
  let c1_i32 : BitVec 32 := 1#32
  let arg7 : BitVec 32 := Scf.iv c0_i32_5 c1_i32 k0_t1
  let v690 : Index := Scalar.indexCast arg7
  let c0_201 : Index := 0#32
  ![11, v690.toNat, 0]
def k0_off38 (k0_t1 : Fin k0_t1_loop.trips) : Fin 3 → Nat :=
  let c11_202 : Index := 11#32
  let c0_i32_5 : BitVec 32 := 0#32
  let c1_i32 : BitVec 32 := 1#32
  let arg7 : BitVec 32 := Scf.iv c0_i32_5 c1_i32 k0_t1
  let v695 : Index := Scalar.indexCast arg7
  let c0_203 : Index := 0#32
  ![11, v695.toNat, 0]
def k0_off39 (v712 : BitVec 32) : Fin 3 → Nat :=
  let c12 : Index := 12#32
  let v713 : Index := Scalar.indexCast v712
  let c0_206 : Index := 0#32
  ![12, v713.toNat, 0]

def k0_chk13 (i : grid0.Coords) (v712 : BitVec 32) : Prop :=
  (∀ (k0_h2 : k0_cond2 i = 1#1), ∀ a, (k0_off39 v712) a + S1x1x80.size a ≤ S16x5000x80.size a)
theorem k0_off39_inb : ∀ (i : grid0.Coords) (v712 : BitVec 32) (k0_hw13 : k0_chk13 i v712), ∀ (k0_h2 : k0_cond2 i = 1#1), ∀ a, (k0_off39 v712) a + S1x1x80.size a ≤ S16x5000x80.size a := fun i v712 k0_hw13 k0_h2 => k0_hw13 k0_h2

def k0_off40 (k0_t1 : Fin k0_t1_loop.trips) : Fin 3 → Nat :=
  let c12_216 : Index := 12#32
  let c0_i32_5 : BitVec 32 := 0#32
  let c1_i32 : BitVec 32 := 1#32
  let arg7 : BitVec 32 := Scf.iv c0_i32_5 c1_i32 k0_t1
  let v746 : Index := Scalar.indexCast arg7
  let c0_217 : Index := 0#32
  ![12, v746.toNat, 0]
def k0_off41 (k0_t1 : Fin k0_t1_loop.trips) : Fin 3 → Nat :=
  let c12_218 : Index := 12#32
  let c0_i32_5 : BitVec 32 := 0#32
  let c1_i32 : BitVec 32 := 1#32
  let arg7 : BitVec 32 := Scf.iv c0_i32_5 c1_i32 k0_t1
  let v751 : Index := Scalar.indexCast arg7
  let c0_219 : Index := 0#32
  ![12, v751.toNat, 0]
def k0_off42 (v768 : BitVec 32) : Fin 3 → Nat :=
  let c13 : Index := 13#32
  let v769 : Index := Scalar.indexCast v768
  let c0_222 : Index := 0#32
  ![13, v769.toNat, 0]

def k0_chk14 (i : grid0.Coords) (v768 : BitVec 32) : Prop :=
  (∀ (k0_h2 : k0_cond2 i = 1#1), ∀ a, (k0_off42 v768) a + S1x1x80.size a ≤ S16x5000x80.size a)
theorem k0_off42_inb : ∀ (i : grid0.Coords) (v768 : BitVec 32) (k0_hw14 : k0_chk14 i v768), ∀ (k0_h2 : k0_cond2 i = 1#1), ∀ a, (k0_off42 v768) a + S1x1x80.size a ≤ S16x5000x80.size a := fun i v768 k0_hw14 k0_h2 => k0_hw14 k0_h2

def k0_off43 (k0_t1 : Fin k0_t1_loop.trips) : Fin 3 → Nat :=
  let c13_232 : Index := 13#32
  let c0_i32_5 : BitVec 32 := 0#32
  let c1_i32 : BitVec 32 := 1#32
  let arg7 : BitVec 32 := Scf.iv c0_i32_5 c1_i32 k0_t1
  let v802 : Index := Scalar.indexCast arg7
  let c0_233 : Index := 0#32
  ![13, v802.toNat, 0]
def k0_off44 (k0_t1 : Fin k0_t1_loop.trips) : Fin 3 → Nat :=
  let c13_234 : Index := 13#32
  let c0_i32_5 : BitVec 32 := 0#32
  let c1_i32 : BitVec 32 := 1#32
  let arg7 : BitVec 32 := Scf.iv c0_i32_5 c1_i32 k0_t1
  let v807 : Index := Scalar.indexCast arg7
  let c0_235 : Index := 0#32
  ![13, v807.toNat, 0]
def k0_off45 (v824 : BitVec 32) : Fin 3 → Nat :=
  let c14 : Index := 14#32
  let v825 : Index := Scalar.indexCast v824
  let c0_238 : Index := 0#32
  ![14, v825.toNat, 0]

def k0_chk15 (i : grid0.Coords) (v824 : BitVec 32) : Prop :=
  (∀ (k0_h2 : k0_cond2 i = 1#1), ∀ a, (k0_off45 v824) a + S1x1x80.size a ≤ S16x5000x80.size a)
theorem k0_off45_inb : ∀ (i : grid0.Coords) (v824 : BitVec 32) (k0_hw15 : k0_chk15 i v824), ∀ (k0_h2 : k0_cond2 i = 1#1), ∀ a, (k0_off45 v824) a + S1x1x80.size a ≤ S16x5000x80.size a := fun i v824 k0_hw15 k0_h2 => k0_hw15 k0_h2

def k0_off46 (k0_t1 : Fin k0_t1_loop.trips) : Fin 3 → Nat :=
  let c14_248 : Index := 14#32
  let c0_i32_5 : BitVec 32 := 0#32
  let c1_i32 : BitVec 32 := 1#32
  let arg7 : BitVec 32 := Scf.iv c0_i32_5 c1_i32 k0_t1
  let v858 : Index := Scalar.indexCast arg7
  let c0_249 : Index := 0#32
  ![14, v858.toNat, 0]
def k0_off47 (k0_t1 : Fin k0_t1_loop.trips) : Fin 3 → Nat :=
  let c14_250 : Index := 14#32
  let c0_i32_5 : BitVec 32 := 0#32
  let c1_i32 : BitVec 32 := 1#32
  let arg7 : BitVec 32 := Scf.iv c0_i32_5 c1_i32 k0_t1
  let v863 : Index := Scalar.indexCast arg7
  let c0_251 : Index := 0#32
  ![14, v863.toNat, 0]
def k0_off48 (v880 : BitVec 32) : Fin 3 → Nat :=
  let c15 : Index := 15#32
  let v881 : Index := Scalar.indexCast v880
  let c0_254 : Index := 0#32
  ![15, v881.toNat, 0]

def k0_chk16 (i : grid0.Coords) (v880 : BitVec 32) : Prop :=
  (∀ (k0_h2 : k0_cond2 i = 1#1), ∀ a, (k0_off48 v880) a + S1x1x80.size a ≤ S16x5000x80.size a)
theorem k0_off48_inb : ∀ (i : grid0.Coords) (v880 : BitVec 32) (k0_hw16 : k0_chk16 i v880), ∀ (k0_h2 : k0_cond2 i = 1#1), ∀ a, (k0_off48 v880) a + S1x1x80.size a ≤ S16x5000x80.size a := fun i v880 k0_hw16 k0_h2 => k0_hw16 k0_h2

def k0_off49 (k0_t1 : Fin k0_t1_loop.trips) : Fin 3 → Nat :=
  let c15_264 : Index := 15#32
  let c0_i32_5 : BitVec 32 := 0#32
  let c1_i32 : BitVec 32 := 1#32
  let arg7 : BitVec 32 := Scf.iv c0_i32_5 c1_i32 k0_t1
  let v914 : Index := Scalar.indexCast arg7
  let c0_265 : Index := 0#32
  ![15, v914.toNat, 0]
def k0_off50 (k0_t1 : Fin k0_t1_loop.trips) : Fin 3 → Nat :=
  let c15_266 : Index := 15#32
  let c0_i32_5 : BitVec 32 := 0#32
  let c1_i32 : BitVec 32 := 1#32
  let arg7 : BitVec 32 := Scf.iv c0_i32_5 c1_i32 k0_t1
  let v919 : Index := Scalar.indexCast arg7
  let c0_267 : Index := 0#32
  ![15, v919.toNat, 0]
def cc0_transform_0 (i : grid0.Coords) : Fin 4 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_1 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x40x125x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5000x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x304x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x300x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x5000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x304x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x300x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x300x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S16x5000x80 : Shape := ⟨3, ![16, 5000, 80]⟩
abbrev S16x5000x4 : Shape := ⟨3, ![16, 5000, 4]⟩
abbrev S16x2 : Shape := ⟨2, ![16, 2]⟩
abbrev S16x5000x2 : Shape := ⟨3, ![16, 5000, 2]⟩
abbrev S_ : Shape := ⟨0, ![]⟩
abbrev S1x16x1x2 : Shape := ⟨4, ![1, 16, 1, 2]⟩
abbrev S1x16x2x2 : Shape := ⟨4, ![1, 16, 2, 2]⟩
abbrev S16x4 : Shape := ⟨2, ![16, 4]⟩
abbrev S16x1x4 : Shape := ⟨3, ![16, 1, 4]⟩
abbrev S16x400000 : Shape := ⟨2, ![16, 400000]⟩
abbrev S16x300 : Shape := ⟨2, ![16, 300]⟩
abbrev S16x300x1 : Shape := ⟨3, ![16, 300, 1]⟩
abbrev S1 : Shape := ⟨1, ![1]⟩
abbrev S1x1x1 : Shape := ⟨3, ![1, 1, 1]⟩
abbrev S16x300x4 : Shape := ⟨3, ![16, 300, 4]⟩

abbrev nBuf : Space → Nat
  | .hbm => 95
  | .vmem => 0
  | .smem => 0
  | _ => 0

abbrev bufTy : (tb : Table) → Fin (tcTables nBuf tb) → BufTy
  | .hbm, ⟨0, _⟩ => ⟨S16x5000x80, .f32⟩
  | .hbm, ⟨1, _⟩ => ⟨S16x5000x4, .f32⟩
  | .hbm, ⟨2, _⟩ => ⟨S16x2, .i32⟩
  | .hbm, ⟨3, _⟩ => ⟨S16x5000x2, .f32⟩
  | .hbm, ⟨4, _⟩ => ⟨S16x5000x2, .f32⟩
  | .hbm, ⟨5, _⟩ => ⟨S_, .f32⟩
  | .hbm, ⟨6, _⟩ => ⟨S16x5000x2, .f32⟩
  | .hbm, ⟨7, _⟩ => ⟨S16x5000x2, .f32⟩
  | .hbm, ⟨8, _⟩ => ⟨S16x5000x2, .f32⟩
  | .hbm, ⟨9, _⟩ => ⟨S_, .f32⟩
  | .hbm, ⟨10, _⟩ => ⟨S16x5000x2, .f32⟩
  | .hbm, ⟨11, _⟩ => ⟨S16x5000x2, .f32⟩
  | .hbm, ⟨12, _⟩ => ⟨S16x5000x2, .f32⟩
  | .hbm, ⟨13, _⟩ => ⟨S16x5000x4, .f32⟩
  | .hbm, ⟨14, _⟩ => ⟨S16x2, .f32⟩
  | .hbm, ⟨15, _⟩ => ⟨S1x16x1x2, .f32⟩
  | .hbm, ⟨16, _⟩ => ⟨S1x16x2x2, .f32⟩
  | .hbm, ⟨17, _⟩ => ⟨S16x4, .f32⟩
  | .hbm, ⟨18, _⟩ => ⟨S16x1x4, .f32⟩
  | .hbm, ⟨19, _⟩ => ⟨S16x5000x4, .f32⟩
  | .hbm, ⟨20, _⟩ => ⟨S16x5000x4, .f32⟩
  | .hbm, ⟨21, _⟩ => ⟨S16x5000x80, .f32⟩
  | .hbm, ⟨22, _⟩ => ⟨S16x5000x80, .f32⟩
  | .hbm, ⟨23, _⟩ => ⟨S_, .f32⟩
  | .hbm, ⟨24, _⟩ => ⟨S16x5000x80, .f32⟩
  | .hbm, ⟨25, _⟩ => ⟨S16x5000x80, .f32⟩
  | .hbm, ⟨26, _⟩ => ⟨S_, .f32⟩
  | .hbm, ⟨27, _⟩ => ⟨S16x5000x80, .f32⟩
  | .hbm, ⟨28, _⟩ => ⟨S16x5000x80, .f32⟩
  | .hbm, ⟨29, _⟩ => ⟨S16x400000, .f32⟩
  | .hbm, ⟨30, _⟩ => ⟨S16x300, .f32⟩
  | .hbm, ⟨31, _⟩ => ⟨S16x300, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S16x300, .i32⟩
  | .hbm, ⟨39, _⟩ => ⟨S16x300, .i32⟩
  | .hbm, ⟨40, _⟩ => ⟨S_, .i32⟩
  | .hbm, ⟨41, _⟩ => ⟨S16x300, .i32⟩
  | .hbm, ⟨42, _⟩ => ⟨S16x300, .i1⟩
  | .hbm, ⟨43, _⟩ => ⟨S_, .i32⟩
  | .hbm, ⟨44, _⟩ => ⟨S16x300, .i32⟩
  | .hbm, ⟨45, _⟩ => ⟨S16x300, .i1⟩
  | .hbm, ⟨46, _⟩ => ⟨S_, .i32⟩
  | .hbm, ⟨47, _⟩ => ⟨S_, .i1⟩
  | .hbm, ⟨48, _⟩ => ⟨S16x300, .i1⟩
  | .hbm, ⟨49, _⟩ => ⟨S16x300, .i1⟩
  | .hbm, ⟨50, _⟩ => ⟨S16x300, .i1⟩
  | .hbm, ⟨51, _⟩ => ⟨S16x300, .i32⟩
  | .hbm, ⟨52, _⟩ => ⟨S16x300, .i32⟩
  | .hbm, ⟨53, _⟩ => ⟨S16x300, .i32⟩
  | .hbm, ⟨54, _⟩ => ⟨S_, .i32⟩
  | .hbm, ⟨55, _⟩ => ⟨S_, .i32⟩
  | .hbm, ⟨56, _⟩ => ⟨S16x300, .i32⟩
  | .hbm, ⟨57, _⟩ => ⟨S16x300, .i32⟩
  | .hbm, ⟨58, _⟩ => ⟨S16x300, .i32⟩
  | .hbm, ⟨59, _⟩ => ⟨S_, .i32⟩
  | .hbm, ⟨60, _⟩ => ⟨S16x300, .i32⟩
  | .hbm, ⟨61, _⟩ => ⟨S16x300, .i1⟩
  | .hbm, ⟨62, _⟩ => ⟨S16x300, .i32⟩
  | .hbm, ⟨63, _⟩ => ⟨S16x300, .i32⟩
  | .hbm, ⟨64, _⟩ => ⟨S_, .i32⟩
  | .hbm, ⟨65, _⟩ => ⟨S16x300, .i32⟩
  | .hbm, ⟨66, _⟩ => ⟨S16x300, .i1⟩
  | .hbm, ⟨67, _⟩ => ⟨S16x300, .i1⟩
  | .hbm, ⟨68, _⟩ => ⟨S_, .i32⟩
  | .hbm, ⟨69, _⟩ => ⟨S16x300, .i32⟩
  | .hbm, ⟨70, _⟩ => ⟨S16x300, .i32⟩
  | .hbm, ⟨71, _⟩ => ⟨S16x300, .i32⟩
  | .hbm, ⟨72, _⟩ => ⟨S16x300x1, .i32⟩
  | .hbm, ⟨73, _⟩ => ⟨S_, .i32⟩
  | .hbm, ⟨74, _⟩ => ⟨S16x300x1, .i32⟩
  | .hbm, ⟨75, _⟩ => ⟨S16x300x1, .i1⟩
  | .hbm, ⟨76, _⟩ => ⟨S_, .i32⟩
  | .hbm, ⟨77, _⟩ => ⟨S16x300x1, .i32⟩
  | .hbm, ⟨78, _⟩ => ⟨S16x300x1, .i32⟩
  | .hbm, ⟨79, _⟩ => ⟨S16x300x1, .i32⟩
  | .hbm, ⟨80, _⟩ => ⟨S1, .i32⟩
  | .hbm, ⟨81, _⟩ => ⟨S_, .i32⟩
  | .hbm, ⟨82, _⟩ => ⟨S16x300x1, .i32⟩
  | .hbm, ⟨83, _⟩ => ⟨S16x300x1, .i1⟩
  | .hbm, ⟨84, _⟩ => ⟨S1x1x1, .i32⟩
  | .hbm, ⟨85, _⟩ => ⟨S16x300x1, .i32⟩
  | .hbm, ⟨86, _⟩ => ⟨S16x300x1, .i1⟩
  | .hbm, ⟨87, _⟩ => ⟨S16x300x1, .i1⟩
  | .hbm, ⟨88, _⟩ => ⟨S_, .i1⟩
  | .hbm, ⟨89, _⟩ => ⟨S16x300, .i1⟩
  | .hbm, ⟨90, _⟩ => ⟨S16x300x4, .f32⟩
  | .hbm, ⟨91, _⟩ => ⟨S16x300x4, .i1⟩
  | .hbm, ⟨92, _⟩ => ⟨S_, .f32⟩
  | .hbm, ⟨93, _⟩ => ⟨S16x300x4, .f32⟩
  | .hbm, ⟨94, _⟩ => ⟨S16x300x4, .f32⟩
  | _, _ => ⟨S16x5000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_values : Ref sig .tc := ⟨.hbm, 30, rfl⟩
abbrev main_indices : Ref sig .tc := ⟨.hbm, 31, rfl⟩
abbrev main_c : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_c_1 : Ref sig .tc := ⟨.hbm, 40, rfl⟩
abbrev main_call0_v5 : Ref sig .tc := ⟨.hbm, 41, rfl⟩
abbrev main_call0_v6 : Ref sig .tc := ⟨.hbm, 42, rfl⟩
abbrev main_call0_c_2 : Ref sig .tc := ⟨.hbm, 43, rfl⟩
abbrev main_call0_v7 : Ref sig .tc := ⟨.hbm, 44, rfl⟩
abbrev main_call0_v8 : Ref sig .tc := ⟨.hbm, 45, rfl⟩
abbrev main_call0_c_3 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_v23 : Ref sig .tc := ⟨.hbm, 53, rfl⟩
abbrev main_c_3 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_c : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_0 : Ref sig .tc := ⟨.hbm, 68, rfl⟩
abbrev main_call1_v12 : Ref sig .tc := ⟨.hbm, 69, rfl⟩
abbrev main_call1_v13 : Ref sig .tc := ⟨.hbm, 70, rfl⟩
abbrev main_v24 : Ref sig .tc := ⟨.hbm, 71, rfl⟩
abbrev main_v25 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_c_1 : Ref sig .tc := ⟨.hbm, 80, rfl⟩
abbrev main_call2_c_2 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_c_3 : Ref sig .tc := ⟨.hbm, 88, rfl⟩
abbrev main_call2_v11 : Ref sig .tc := ⟨.hbm, 89, rfl⟩
abbrev main_call2_v12 : Ref sig .tc := ⟨.hbm, 90, rfl⟩
abbrev main_call2_v13 : Ref sig .tc := ⟨.hbm, 91, rfl⟩
abbrev main_call2_cst : Ref sig .tc := ⟨.hbm, 92, rfl⟩
abbrev main_call2_v14 : Ref sig .tc := ⟨.hbm, 93, rfl⟩
abbrev main_v26 : Ref sig .tc := ⟨.hbm, 94, rfl⟩

abbrev nD : Nat := 1
abbrev τ : Topo := Topo.v7x

variable {F : FTy → Type} [FloatOps F]
-- ==== Proof.Select.Batch.lean ====
/-
  ONE BATCH ROW OF ONE EXTRACTION STEP. A trip of the selection loop does the same seven memory accesses for each of
  the sixteen batch rows; here they are written once, for a row `b`, and the trip is shown to be the sixteen of them in a row.
-/
module

public import proofs.«01_k».proof.Proof.Gen.KernelIdeal.Skeleton

@[expose] public section

noncomputable section

namespace Cert.Proof.Select

open Cert.KernelIdeal Cert.KernelIdeal.Gen
open Idealize.ShloMosaic Idealize.SL.Sem

variable {F : FTy → Type} [FloatOps F]

/-! ## Where a row's accesses lie -/

theorem inM {b : ℕ} (hb : b < 16) : ∀ a, (![b, 0, 0] : Fin 3 → ℕ) a + S1x40x125.size a ≤ S16x40x125.size a := by
  intro a; fin_cases a <;> simp [S1x40x125, S16x40x125] <;> omega

theorem slV {b : ℕ} (hb : b < 16) : S16x1x1.Slices ![b, 0, 0] S1x1x1 := by
  refine ⟨rfl, fun a => ?_⟩
  fin_cases a <;> simp [S1x1x1, S16x1x1] <;> omega

theorem slM {b : ℕ} (hb : b < 16) : S16x40x125.Slices ![b, 0, 0] S1x40x125 := by
  refine ⟨rfl, fun a => ?_⟩
  fin_cases a <;> simp [S1x40x125, S16x40x125] <;> omega

/-- Where the query's class scores lie in the score scratch. -/
def offS (b : ℕ) (q : BitVec 32) : Fin 3 → ℕ := ![b, (Scalar.indexCast q).toNat, 0]

/-- What a row owes before reading the query `q`'s scores: that they lie inside the scratch. -/
def chkS (i : grid0.Coords) (b : ℕ) (q : BitVec 32) : Prop :=
  ∀ (h2 : k0_cond2 i = 1#1), ∀ a, (offS b q) a + S1x1x80.size a ≤ S16x5000x80.size a

theorem chkS_eq (i : grid0.Coords) (b : ℕ) (q : BitVec 32) : chkS i b q =
  ∀ (h2 : k0_cond2 i = 1#1), ∀ a, (offS b q) a + S1x1x80.size a ≤ S16x5000x80.size a := rfl

instance chkS.dec (i : grid0.Coords) (b : ℕ) (q : BitVec 32) : Decidable (chkS i b q) :=
  decidable_of_iff' _ (Iff.of_eq (chkS_eq i b q))

/-- Where step `j`'s result of row `b` lies in an output. -/
def offJ (b : ℕ) (j : Fin k0_t1_loop.trips) : Fin 3 → ℕ :=
  ![b, (Scalar.indexCast (Scf.iv 0#32 1#32 j)).toNat, 0]

theorem inF {b : ℕ} (hb : b < 16) (i : grid0.Coords) (h2 : k0_cond2 i = 1#1) (j : Fin k0_t1_loop.trips) :
    ∀ a, (offJ b j) a + S1x1x1.size a ≤ S16x304x1.size a := by
  intro a
  have h := k0_off4_inb i j h2 a
  fin_cases a
  · simp [offJ, S1x1x1, S16x304x1]; omega
  · exact h
  · exact h

theorem inO {b : ℕ} (hb : b < 16) (i : grid0.Coords) (h2 : k0_cond2 i = 1#1) (j : Fin k0_t1_loop.trips) :
    ∀ a, (offJ b j) a + S1x1x1.size a ≤ S16x300x1.size a := by
  intro a
  have h := k0_off5_inb i j h2 a
  fin_cases a
  · simp [offJ, S1x1x1, S16x300x1]; omega
  · exact h
  · exact h

/-! ## What a row computes -/

/-- The row's greatest score `v`, out of the sixteen rows' maxima. -/
def rowV {b : ℕ} (hb : b < 16) (vs : FVec F S16x1x1 .f32) : F .f32 :=
  extractAt ![0, 0, 0] (shapeCast S1x1x1 (multiReduction .maximumf [1, 2] S1 (shapeCast S1x1x1 (shapeCast S1x1
    (extractStridedSlice S1x1x1 ![b, 0, 0] vs (slV hb)) shapeCasts_S1x1x1_S1x1) shapeCasts_S1x1_S1x1x1) 0xFF800000#32
    reduces_S1x1x1_S1 (.inl rfl) rfl) shapeCasts_S1_S1x1x1) inpos_S1x1x1_p0_0_0

/-- The row's first query that attains it, `q`, out of the sixteen rows' first queries. -/
def rowQ {b : ℕ} (hb : b < 16) (qs : IVec S16x1x1 32) : BitVec 32 :=
  extractAt ![0, 0, 0] (shapeCast S1x1x1 (multiReductionI .minsi [1, 2] S1 (shapeCast S1x1x1 (shapeCast S1x1
    (extractStridedSlice S1x1x1 ![b, 0, 0] qs (slV hb)) shapeCasts_S1x1x1_S1x1) shapeCasts_S1x1_S1x1x1) 2147483647#32
    reduces_S1x1x1_S1 rfl) shapeCasts_S1_S1x1x1) inpos_S1x1x1_p0_0_0

/-- The row's query maxima. -/
def rowM {b : ℕ} (hb : b < 16) (ms : FVec F S16x40x125 .f32) : FVec F S40x125 .f32 :=
  shapeCast S40x125 (extractStridedSlice S1x40x125 ![b, 0, 0] ms (slM hb)) shapeCasts_S1x40x125_S40x125

/-- The first class of the query's scores `e` that attains `v`. -/
def clsOf (v13 : IVec S1x80 32) (v : F .f32) (e : FVec F S1x80 .f32) : BitVec 32 :=
  extractAt ![0, 0, 0] (shapeCast S1x1x1 (multiReductionI .minsi [1, 2] S1 (shapeCast S1x1x80
    (select (cmpf .oeq e (broadcast S1x80 v)) v13 (broadcast S1x80 1073741824#32)) shapeCasts_S1x80_S1x1x80) 2147483647#32
    reduces_S1x1x80_S1 rfl) shapeCasts_S1_S1x1x1) inpos_S1x1x1_p0_0_0

/-- The query's scores with that class taken out. -/
def maskedOf (v13 : IVec S1x80 32) (cst v : F .f32) (e : FVec F S1x80 .f32) : FVec F S1x80 .f32 :=
  select (cmpi .eq v13 (broadcast S1x80 (clsOf v13 v e))) (broadcast S1x80 cst) e

/-- The greatest of what is left of the query's scores. -/
def newMax (w : FVec F S1x80 .f32) : F .f32 :=
  extractAt ![0, 0, 0] (shapeCast S1x1x1 (multiReduction .maximumf [1, 2] S1 (shapeCast S1x1x80 w shapeCasts_S1x80_S1x1x80)
    0xFF800000#32 reduces_S1x1x80_S1 (.inl rfl) rfl) shapeCasts_S1_S1x1x1) inpos_S1x1x1_p0_0_0

/-- The row's query maxima with the query `q`'s replaced by `nm`. -/
def newM (v12 : IVec S40x125 32) (q : BitVec 32) (nm : F .f32) (m : FVec F S40x125 .f32) : FVec F S1x40x125 .f32 :=
  shapeCast S1x40x125 (select (cmpi .eq v12 (broadcast S40x125 q)) (broadcast S40x125 nm) m) shapeCasts_S40x125_S1x40x125

/-- The flat index written. -/
def fidxOf (q cls : BitVec 32) : IVec S1x1x1 32 :=
  shapeCast S1x1x1 (broadcast S1x1 (Scalar.addi (Scalar.muli q 80#32) cls)) shapeCasts_S1x1_S1x1x1

/-- The score written. -/
def scoreOf (v : F .f32) : FVec F S1x1x1 .f32 := shapeCast S1x1x1 (broadcast S1x1 v) shapeCasts_S1x1_S1x1x1

/-- Row `b` of step `j`, whose greatest remaining score is `v`, first attained in query `q`, and whose query maxima are
    `m`: take the score out of the score scratch, renew the query's maximum, write the flat index and the value. -/
def rowBody (i : grid0.Coords) (arg3 : Memref sig .tc .vmem S16x304x1 .i32) (arg4 : Memref sig .tc .vmem S16x300x1 .f32)
    (arg5 : Memref sig .tc .vmem S16x5000x80 .f32) (arg6 : Memref sig .tc .vmem S16x40x125 .f32) (h2 : k0_cond2 i = 1#1)
    (v13 : IVec S1x80 32) (cst : F .f32) (j : Fin k0_t1_loop.trips) (q : BitVec 32) (v : F .f32) (m : FVec F S40x125 .f32)
    (b : ℕ) (hb : b < 16) :
    Prog (TpuEff nD τ sig (Elt F) Λ₀ .tc) PUnit := do
  have hw : chkS i b q :=
    (← Prog.lift (TpuEff.assume (chkS i b q) (chkS.dec i b q))).down
  let e : Vec F S1x1x80 .f32 ← Prog.lift (.load arg5 (Rect.unit (s := S16x5000x80) (offS b q)
    S1x1x80.size (hw h2)).toLoadRect (View.loadsAt_vmem h_S1x1x80))
  let _e' : Vec F S1x1x80 .f32 ← Prog.lift (.load arg5 (Rect.unit (s := S16x5000x80) (offS b q)
    S1x1x80.size (hw h2)).toLoadRect (View.loadsAt_vmem h_S1x1x80))
  Prog.lift (.store arg5 (Rect.unit (s := S16x5000x80) (offS b q) S1x1x80.size (hw h2))
    (shapeCast S1x1x80 (maskedOf v13 cst v (shapeCast S1x80 e shapeCasts_S1x1x80_S1x80)) shapeCasts_S1x80_S1x1x80)
    Finset.univ (View.stores_vmem_bits_univ h_S1x1x80 rfl) (.inl rfl))
  let _m : Vec F S1x40x125 .f32 ← Prog.lift (.load arg6 (Rect.unit (s := S16x40x125) ![b, 0, 0] S1x40x125.size (inM hb)).toLoadRect
    (View.loadsAt_vmem h_S1x40x125))
  Prog.lift (.store arg6 (Rect.unit (s := S16x40x125) ![b, 0, 0] S1x40x125.size (inM hb))
    (newM k0_pay4 q
      (newMax (maskedOf v13 cst v (shapeCast S1x80 e shapeCasts_S1x1x80_S1x80))) m)
    Finset.univ (View.stores_vmem_bits_univ h_S1x40x125 rfl) (.inl rfl))
  let _f : Vec F S1x1x1 .i32 ← Prog.lift (.load arg3 (Rect.unit (s := S16x304x1) (offJ b j) S1x1x1.size (inF hb i h2 j)).toLoadRect
    (View.loadsAt_vmem h_S1x1x1))
  Prog.lift (.store arg3 (Rect.unit (s := S16x304x1) (offJ b j) S1x1x1.size (inF hb i h2 j))
    (fidxOf q (clsOf v13 v (shapeCast S1x80 e shapeCasts_S1x1x80_S1x80)))
    Finset.univ (View.stores_vmem_bits_univ h_S1x1x1 rfl) (.inl rfl))
  let _o : Vec F S1x1x1 .f32 ← Prog.lift (.load arg4 (Rect.unit (s := S16x300x1) (offJ b j) S1x1x1.size (inO hb i h2 j)).toLoadRect
    (View.loadsAt_vmem h_S1x1x1))
  Prog.lift (.store arg4 (Rect.unit (s := S16x300x1) (offJ b j) S1x1x1.size (inO hb i h2 j)) (scoreOf v)
    Finset.univ (View.stores_vmem_bits_univ h_S1x1x1 rfl) (.inl rfl))

/-- ROW `b` OF STEP `j`, from the query maxima `ms` read at the start of the step. -/
def rowProg (i : grid0.Coords) (arg3 : Memref sig .tc .vmem S16x304x1 .i32) (arg4 : Memref sig .tc .vmem S16x300x1 .f32)
    (arg5 : Memref sig .tc .vmem S16x5000x80 .f32) (arg6 : Memref sig .tc .vmem S16x40x125 .f32) (h2 : k0_cond2 i = 1#1)
    (v13 : IVec S1x80 32) (cst : F .f32) (j : Fin k0_t1_loop.trips) (ms : Vec F S16x40x125 .f32) (b : ℕ) (hb : b < 16) :
    Prog (TpuEff nD τ sig (Elt F) Λ₀ .tc) PUnit :=
  rowBody i arg3 arg4 arg5 arg6 h2 v13 cst j (rowQ hb (k0_pay8 k0_pay5 ms)) (rowV hb (k0_pay7 ms)) (rowM hb ms) b hb

/-- The rows from `b` on, `n` of them. -/
def rowsProg (i : grid0.Coords) (arg3 : Memref sig .tc .vmem S16x304x1 .i32) (arg4 : Memref sig .tc .vmem S16x300x1 .f32)
    (arg5 : Memref sig .tc .vmem S16x5000x80 .f32) (arg6 : Memref sig .tc .vmem S16x40x125 .f32) (h2 : k0_cond2 i = 1#1)
    (v13 : IVec S1x80 32) (cst : F .f32) (j : Fin k0_t1_loop.trips) (ms : Vec F S16x40x125 .f32) :
    (n b : ℕ) → (hb : b + n = 16) → Prog (TpuEff nD τ sig (Elt F) Λ₀ .tc) PUnit
  | 0, _, _ => pure ⟨⟩
  | n + 1, b, hb => do
    rowProg i arg3 arg4 arg5 arg6 h2 v13 cst j ms b (by omega)
    rowsProg i arg3 arg4 arg5 arg6 h2 v13 cst j ms n (b + 1) (by omega)

set_option maxRecDepth 65536 in
set_option maxHeartbeats 4000000 in
/-- A TRIP IS THE SIXTEEN ROWS: the query maxima read once, then the rows in order. -/
theorem trip_eq (i : grid0.Coords) (arg1 : Memref sig .tc .vmem S1x40x125x80 .f32) (harg1 : arg1.IsWhole)
    (arg2 : Memref sig .tc .vmem S1x5000x80 .f32) (harg2 : arg2.IsWhole) (arg3 : Memref sig .tc .vmem S16x304x1 .i32)
    (harg3 : arg3.IsWhole) (arg4 : Memref sig .tc .vmem S16x300x1 .f32) (harg4 : arg4.IsWhole)
    (arg5 : Memref sig .tc .vmem S16x5000x80 .f32) (harg5 : arg5.IsWhole) (arg6 : Memref sig .tc .vmem S16x40x125 .f32)
    (harg6 : arg6.IsWhole) (h2 : k0_cond2 i = 1#1) (v13 : IVec S1x80 32) (cst : F .f32) (j : Fin k0_t1_loop.trips) :
    k0_t1_body i arg1 harg1 arg2 harg2 arg3 harg3 arg4 harg4 arg5 harg5 arg6 harg6 h2 v13 cst j () = (do
      let ms : Vec F S16x40x125 .f32 ← Prog.lift (.load arg6 (Rect.unit (s := S16x40x125) ![0, 0, 0] S16x40x125.size
        inb_S16x40x125_S16x40x125_0_0_0).toLoadRect (View.loadsAt_vmem h_S16x40x125))
      rowsProg i arg3 arg4 arg5 arg6 h2 v13 cst j ms 16 0 rfl) := rfl

end Cert.Proof.Select

end
-- ==== Proof.Select.TopK.lean ====
/-
  THE TOP OF A ROW. A row of `n` extended reals; `pick x k` is the position of its `k`-th greatest entry, equal entries
  counted in the order of their positions. The picks are distinct, and the next pick is the first position at which the
  entries not yet picked attain their maximum: that is what an extraction step finds.
-/
module

public import Idealize.ShloMosaic.Lib.SortFacts
public import Idealize.ShloMosaic.PureOps.Ideal

@[expose] public section

noncomputable section

namespace Cert.Proof.Select

open Idealize.ShloMosaic

variable {n : ℕ}

/-- `a` comes before `b`: its entry is greater, or they are equal and it stands earlier. -/
def Ahead (x : Fin n → EReal) (a b : Fin n) : Prop := x b < x a ∨ (x a = x b ∧ a < b)

/-- The comparison of a descending sort. -/
def gtAt (x : Fin n → EReal) (a b : Fin n) : Bool := decide (x b < x a)

/-- Inserting a position that stands before all of an ordered list keeps the list ordered. -/
theorem ahead_insert (x : Fin n → EReal) (a : Fin n) (l : List (Fin n)) (ha : ∀ b ∈ l, a < b)
    (hl : l.Pairwise (Ahead x)) : (insertBefore (gtAt x) a l).Pairwise (Ahead x) := by
  induction l with
  | nil => exact List.pairwise_singleton _ _
  | cons c l ih =>
    have hc := List.pairwise_cons.mp hl
    rw [insertBefore]
    by_cases h : x a < x c
    · rw [if_pos (by simpa [gtAt] using h)]
      refine List.pairwise_cons.mpr ⟨fun y hy => ?_, ih (fun b hb => ha b (List.mem_cons_of_mem _ hb)) hc.2⟩
      rcases List.mem_cons.mp ((perm_insertBefore _ a l).mem_iff.mp hy) with rfl | hy
      · exact .inl h
      · exact hc.1 y hy
    · rw [if_neg (by simpa [gtAt] using h)]
      refine List.pairwise_cons.mpr ⟨fun y hy => ?_, hl⟩
      have hle : x y ≤ x a := by
        rcases List.mem_cons.mp hy with rfl | hy'
        · exact not_lt.mp h
        · rcases hc.1 y hy' with h' | ⟨h', -⟩
          · exact h'.le.trans (not_lt.mp h)
          · exact h' ▸ not_lt.mp h
      rcases hle.lt_or_eq with h' | h'
      · exact .inl h'
      · exact .inr ⟨h'.symm, ha y hy⟩

theorem ahead_sort (x : Fin n → EReal) (l : List (Fin n)) (hl : l.Pairwise (· < ·)) :
    (stableSort (gtAt x) l).Pairwise (Ahead x) := by
  induction l with
  | nil => exact List.Pairwise.nil
  | cons a l ih =>
    have h := List.pairwise_cons.mp hl
    exact ahead_insert x a _ (fun b hb => h.1 b ((perm_stableSort _ l).mem_iff.mp hb)) (ih h.2)

/-- The position of the `k`-th greatest entry. -/
def pick (x : Fin n → EReal) (k : Fin n) : Fin n := sortedFrom (gtAt x) k

theorem pick_injective (x : Fin n → EReal) : Function.Injective (pick x) := sortedFrom_injective _

theorem pick_ahead (x : Fin n → EReal) {j k : Fin n} (h : j < k) : Ahead x (pick x j) (pick x k) := by
  have hp := List.pairwise_iff_get.mp (ahead_sort x (List.finRange n) (List.pairwise_lt_finRange n))
  exact hp (j.cast (length_sortPositions n (gtAt x)).symm) (k.cast (length_sortPositions n (gtAt x)).symm)
    (show j.val < k.val from h)

/-- Position `i` is among the first `k` picks. -/
def Taken (x : Fin n → EReal) (k : ℕ) (i : Fin n) : Prop := ∃ j : Fin n, j.val < k ∧ pick x j = i

theorem taken_zero (x : Fin n → EReal) (i : Fin n) : ¬Taken x 0 i := fun ⟨_, h, _⟩ => Nat.not_lt_zero _ h

theorem taken_succ (x : Fin n → EReal) (k : Fin n) (i : Fin n) :
    Taken x (k.val + 1) i ↔ Taken x k.val i ∨ i = pick x k := by
  constructor
  · rintro ⟨j, hj, rfl⟩
    rcases Nat.lt_succ_iff_lt_or_eq.mp hj with h | h
    · exact .inl ⟨j, h, rfl⟩
    · exact .inr (congrArg _ (Fin.ext h))
  · rintro (⟨j, hj, rfl⟩ | rfl)
    · exact ⟨j, by omega, rfl⟩
    · exact ⟨k, by omega, rfl⟩

theorem not_taken_pick (x : Fin n → EReal) (k : Fin n) : ¬Taken x k.val (pick x k) := by
  rintro ⟨j, hj, e⟩
  exact absurd (pick_injective x e) (by rintro rfl; omega)

/-- Among the positions not yet picked, the next pick is the first of the greatest. -/
theorem pick_first (x : Fin n → EReal) (k i : Fin n) (hi : ¬Taken x k.val i) :
    i = pick x k ∨ Ahead x (pick x k) i := by
  obtain ⟨j, rfl⟩ := sortedFrom_surjective (gtAt x) i
  rcases lt_trichotomy j k with h | h | h
  · exact absurd ⟨j, h, rfl⟩ hi
  · exact .inl (h ▸ rfl)
  · exact .inr (pick_ahead x h)

open Classical in
/-- What is left of the row after `k` picks: the picked entries are at −∞. -/
def left (x : Fin n → EReal) (k : ℕ) (i : Fin n) : EReal := if Taken x k i then ⊥ else x i

theorem left_zero (x : Fin n → EReal) (i : Fin n) : left x 0 i = x i := if_neg (taken_zero x i)

theorem left_pick (x : Fin n → EReal) (k : Fin n) : left x k.val (pick x k) = x (pick x k) :=
  if_neg (not_taken_pick x k)

theorem left_succ_pick (x : Fin n → EReal) (k : Fin n) : left x (k.val + 1) (pick x k) = ⊥ :=
  if_pos ((taken_succ x k _).mpr (.inr rfl))

theorem left_succ_of_ne (x : Fin n → EReal) (k i : Fin n) (h : i ≠ pick x k) :
    left x (k.val + 1) i = left x k.val i := by
  have ht : Taken x (k.val + 1) i ↔ Taken x k.val i := (taken_succ x k i).trans (or_iff_left h)
  by_cases h' : Taken x k.val i
  · rw [left, left, if_pos h', if_pos (ht.mpr h')]
  · rw [left, left, if_neg h', if_neg (mt ht.mp h')]

theorem left_le (x : Fin n → EReal) (k i : Fin n) : left x k.val i ≤ x (pick x k) := by
  unfold left
  split
  · exact bot_le
  · next h =>
    rcases pick_first x k i h with rfl | h' | ⟨h', -⟩
    · exact le_rfl
    · exact h'.le
    · exact h'.ge

/-- A position that attains the greatest remaining entry is no earlier than the next pick. -/
theorem pick_le_of_left_eq (x : Fin n → EReal) (hx : ∀ i, ⊥ < x i) (k i : Fin n) (h : left x k.val i = x (pick x k)) :
    pick x k ≤ i := by
  unfold left at h
  split at h
  · exact absurd h.symm (hx _).ne'
  · next ht =>
    rcases pick_first x k i ht with rfl | h' | ⟨-, h'⟩
    · exact le_rfl
    · exact absurd h h'.ne
    · exact h'.le

end Cert.Proof.Select

end
-- ==== Proof.Select.Row.lean ====
/-
  WHAT ONE ROW OF AN EXTRACTION STEP COMPUTES, over the extended reals. With `k` entries of the row already at −∞, the
  row's greatest score is the entry of the next pick, the first query and class attaining it are that pick's, and the
  renewed scores and query maxima are those with `k + 1` entries at −∞.
-/
module

public import proofs.«01_k».proof.Proof.Select.Batch
public import proofs.«01_k».proof.Proof.Select.TopK
public import Idealize.ShloMosaic.Lib.Pointwise

@[expose] public section

noncomputable section

namespace Cert.Proof.Select

open Cert.KernelIdeal Cert.KernelIdeal.Gen
open Idealize.ShloMosaic Idealize.SL.Sem

/-! ## Positions -/

/-- The flat position of class `c` of query `q`. -/
def fl (q : Fin 5000) (c : Fin 80) : Fin 400000 := ⟨q.val * 80 + c.val, by omega⟩

/-- The query of a flat position. -/
def qOf (i : Fin 400000) : Fin 5000 := ⟨i.val / 80, by omega⟩

/-- The class of a flat position. -/
def cOf (i : Fin 400000) : Fin 80 := ⟨i.val % 80, by omega⟩

/-- The query at row `r`, column `c` of the table of query maxima. -/
def mq (r : Fin 40) (c : Fin 125) : Fin 5000 := ⟨r.val * 125 + c.val, by omega⟩

theorem fl_qOf_cOf (i : Fin 400000) : fl (qOf i) (cOf i) = i := Fin.ext (by simp only [fl, qOf, cOf]; omega)

theorem fl_eq_iff (q : Fin 5000) (c : Fin 80) (i : Fin 400000) : fl q c = i ↔ q = qOf i ∧ c = cOf i := by
  simp only [Fin.ext_iff, fl, qOf, cOf]; omega

theorem exists_mq (q : Fin 5000) : ∃ r c, mq r c = q :=
  ⟨⟨q.val / 125, by omega⟩, ⟨q.val % 125, by omega⟩, Fin.ext (by simp only [mq]; omega)⟩

/-! ## The two reductions -/

theorem negInf : Ideal.ofBits .f32 0xFF800000#32 = (⊥ : EReal) := by
  simp [Ideal.ofBits, Ideal.ieee]

/-- A fold of `max` from −∞ is the supremum. -/
theorem fold_max {ι : Type} [Fintype ι] (f : ι → EReal) :
    Finset.univ.fold max (Ideal.ofBits .f32 0xFF800000#32) f = Finset.univ.sup f := by
  rw [negInf]; rfl

theorem toInt_minsi {w : ℕ} (a b : BitVec w) : (IntOp.minsi a b).toInt = min a.toInt b.toInt := by
  unfold IntOp.minsi
  rw [BitVec.slt]
  split
  · next h => exact (min_eq_left (of_decide_eq_true h).le).symm
  · next h => exact (min_eq_right (not_lt.mp fun h' => h (decide_eq_true h'))).symm

/-- A fold of the signed minimum is the least of the words, when one of them is below the initial word and the rest. -/
theorem fold_minsi {ι : Type} [Fintype ι] (init v : BitVec 32) (f : ι → BitVec 32) (i₀ : ι) (h₀ : f i₀ = v)
    (hle : ∀ i, v.toInt ≤ (f i).toInt) (hinit : v.toInt ≤ init.toInt) : Finset.univ.fold IntOp.minsi init f = v := by
  apply BitVec.eq_of_toInt_eq
  rw [← Finset.fold_hom (op := IntOp.minsi) (op' := min) (m := BitVec.toInt) (fun x y => toInt_minsi x y)]
  refine le_antisymm ?_ ?_
  · exact (Finset.fold_min_le _).mpr (.inr ⟨i₀, Finset.mem_univ _, by rw [h₀]⟩)
  · exact (Finset.le_fold_min _).mpr ⟨hinit, fun i _ => hle i⟩

/-- A choice by the equality of two words. -/
theorem select_eq {α : Type} (a b : BitVec 32) (u v : α) :
    Scalar.select (IntOp.cmpi .eq a b) u v = if a = b then u else v := by
  by_cases h : a = b
  · subst h; simp [IntOp.cmpi, Scalar.select]
  · have : (a == b) = false := by simpa using h
    simp only [IntOp.cmpi, this, Scalar.select, if_neg h]
    exact if_neg (by decide)

/-! ## A query's best remaining score -/

/-- The greatest remaining score of query `q`. -/
def best (x : Fin 400000 → EReal) (k : ℕ) (q : Fin 5000) : EReal := Finset.univ.sup fun c => left x k (fl q c)

variable (x : Fin 400000 → EReal) (hx : ∀ i, ⊥ < x i) (k : Fin 400000)

theorem best_le (q : Fin 5000) : best x k.val q ≤ x (pick x k) := Finset.sup_le fun _ _ => left_le x k _

theorem best_pick : best x k.val (qOf (pick x k)) = x (pick x k) := by
  refine le_antisymm (best_le x k _) ?_
  refine le_trans (le_of_eq ?_) (Finset.le_sup (Finset.mem_univ (cOf (pick x k))))
  rw [fl_qOf_cOf, left_pick]

include hx in
theorem qOf_le_of_best_eq (q : Fin 5000) (h : best x k.val q = x (pick x k)) : (qOf (pick x k)).val ≤ q.val := by
  obtain ⟨c, -, hc⟩ := Finset.exists_mem_eq_sup Finset.univ ⟨(0 : Fin 80), Finset.mem_univ _⟩ fun c => left x k.val (fl q c)
  have := pick_le_of_left_eq x hx k (fl q c) (hc.symm.trans h)
  have h' : (pick x k).val ≤ q.val * 80 + c.val := this
  show (pick x k).val / 80 ≤ q.val
  omega

theorem best_succ_of_ne (q : Fin 5000) (h : q ≠ qOf (pick x k)) : best x (k.val + 1) q = best x k.val q := by
  unfold best
  congr 1
  funext c
  exact left_succ_of_ne x k _ fun e => h ((fl_eq_iff _ _ _).mp e).1

/-! ## The row's greatest score and its query -/

variable {b : ℕ} (hb : b < 16) (ms : FVec Ideal S16x40x125 .f32)
  (hm : ∀ r c, ms (ix3 ⟨b, hb⟩ r c) = best x k.val (mq r c))

include hm in
theorem pay7_eq : k0_pay7 (F := Ideal) ms (ix3 ⟨b, hb⟩ 0 0) = x (pick x k) := by
  have : k0_pay7 (F := Ideal) ms (ix3 ⟨b, hb⟩ 0 0) = Finset.univ.sup fun y : Fin 40 × Fin 125 => ms (ix3 ⟨b, hb⟩ y.1 y.2) := by
    pointwise [k0_pay7]
    exact fold_max _
  rw [this]
  refine le_antisymm (Finset.sup_le fun y _ => (hm y.1 y.2).trans_le (best_le x k _)) ?_
  obtain ⟨r, c, e⟩ := exists_mq (qOf (pick x k))
  refine le_trans (le_of_eq ?_) (Finset.le_sup (Finset.mem_univ (r, c)))
  rw [hm, e, best_pick]

include hm in
theorem rowV_eq : rowV (F := Ideal) hb (k0_pay7 ms) = x (pick x k) := by
  have : rowV (F := Ideal) hb (k0_pay7 ms) = Finset.univ.sup fun _ : Fin 1 × Fin 1 => k0_pay7 (F := Ideal) ms (ix3 ⟨b, hb⟩ 0 0) := by
    pointwise [rowV]
    exact fold_max _
  rw [this, pay7_eq x k hb ms hm]
  exact Finset.sup_const Finset.univ_nonempty _

theorem toInt_small (a : ℕ) (h : a < 2 ^ 31) : (BitVec.ofNat 32 a).toInt = a := by
  rw [BitVec.toInt_eq_toNat_of_lt (by rw [BitVec.toNat_ofNat]; omega), BitVec.toNat_ofNat]; omega

include hm hx in
theorem pay8_eq : k0_pay8 (F := Ideal) k0_pay5 ms (ix3 ⟨b, hb⟩ 0 0) = BitVec.ofNat 32 (qOf (pick x k)).val := by
  pointwise [k0_pay8, k0_pay5, k0_pay4]
  obtain ⟨r, c, e⟩ := exists_mq (qOf (pick x k))
  have hq := (qOf (pick x k)).isLt
  have hw : ∀ (r : Fin 40) (c : Fin 125), IntOp.addi (IntOp.muli (BitVec.ofNat 32 r.val) 125#32) (BitVec.ofNat 32 c.val)
      = BitVec.ofNat 32 (mq r c).val := by
    intro r c
    show BitVec.ofNat 32 r.val * BitVec.ofNat 32 125 + BitVec.ofNat 32 c.val = BitVec.ofNat 32 (r.val * 125 + c.val)
    rw [BitVec.ofNat_add, BitVec.ofNat_mul]
  refine fold_minsi _ _ _ (r, c) ?_ (fun y => ?_) ?_
  · rw [if_pos (by rw [pay7_eq x k hb ms hm, hm, e, best_pick]), hw, e]
  · rw [pay7_eq x k hb ms hm, toInt_small _ (by omega)]
    split
    · next h =>
      rw [hw, toInt_small _ (by have := (mq y.1 y.2).isLt; omega)]
      exact_mod_cast qOf_le_of_best_eq x hx k _ ((hm _ _).symm.trans h)
    · rw [show (1073741824#32).toInt = 1073741824 from rfl]; omega
  · rw [toInt_small _ (by omega), show (2147483647#32).toInt = 2147483647 from rfl]; omega

include hm hx in
theorem rowQ_eq : rowQ hb (k0_pay8 (F := Ideal) k0_pay5 ms) = BitVec.ofNat 32 (qOf (pick x k)).val := by
  pointwise [rowQ]
  have hq := (qOf (pick x k)).isLt
  refine fold_minsi _ _ _ default (pay8_eq x hx k hb ms hm) (fun _ => (congrArg BitVec.toInt (pay8_eq x hx k hb ms hm)).ge) ?_
  rw [toInt_small _ (by omega), show (2147483647#32).toInt = 2147483647 from rfl]; omega

/-! ## The class, and what is left -/

/-- The class numbers. -/
def classes : IVec S1x80 32 := iota .tc S1x80 32 [1] iota_S1x80_d1_w32

variable (e : FVec Ideal S1x80 .f32) (he : ∀ c, e (ix2 0 c) = left x k.val (fl (qOf (pick x k)) c))

include he hx in
theorem clsOf_eq : clsOf (F := Ideal) classes (x (pick x k)) e = BitVec.ofNat 32 (cOf (pick x k)).val := by
  pointwise [clsOf, classes]
  have hc := (cOf (pick x k)).isLt
  refine fold_minsi _ _ _ (0, cOf (pick x k)) ?_ (fun y => ?_) ?_
  · rw [if_pos (by rw [he, fl_qOf_cOf, left_pick])]
  · rw [toInt_small _ (by omega)]
    split
    · next h =>
      rw [toInt_small _ (by have := y.2.isLt; omega)]
      have h' := Fin.le_def.mp (pick_le_of_left_eq x hx k (fl (qOf (pick x k)) y.2) ((he _).symm.trans h))
      have hf : (fl (qOf (pick x k)) y.2).val = (qOf (pick x k)).val * 80 + y.2.val := rfl
      have hcv : (cOf (pick x k)).val = (pick x k).val % 80 := rfl
      have : (cOf (pick x k)).val ≤ y.2.val := by
        have : (qOf (pick x k)).val = (pick x k).val / 80 := rfl
        omega
      exact_mod_cast this
    · rw [show (1073741824#32).toInt = 1073741824 from rfl]; omega
  · rw [toInt_small _ (by omega), show (2147483647#32).toInt = 2147483647 from rfl]; omega

include he hx in
theorem maskedOf_eq (c : Fin 80) : maskedOf (F := Ideal) classes (Scalar.ofBits .f32 0xFF800000#32) (x (pick x k)) e (ix2 0 c)
    = left x (k.val + 1) (fl (qOf (pick x k)) c) := by
  unfold maskedOf
  rw [clsOf_eq x hx k e he]
  pointwise [classes]
  have hc := (cOf (pick x k)).isLt
  by_cases h : c = cOf (pick x k)
  · subst h
    rw [fl_qOf_cOf, left_succ_pick]
    rw [select_eq, if_pos rfl, negInf]
  · rw [left_succ_of_ne x k _ fun e => h ((fl_eq_iff _ _ _).mp e).2, ← he c]
    have : ¬BitVec.ofNat 32 c.val = BitVec.ofNat 32 (cOf (pick x k)).val := by
      intro h'
      have := congrArg BitVec.toNat h'
      simp only [BitVec.toNat_ofNat] at this
      exact h (Fin.ext (by omega))
    rw [select_eq, if_neg this]

theorem newMax_eq (w : FVec Ideal S1x80 .f32) (q : Fin 5000) (k' : ℕ) (hw : ∀ c, w (ix2 0 c) = left x k' (fl q c)) :
    newMax w = best x k' q := by
  have h : newMax w = Finset.univ.sup fun y : Fin 1 × Fin 80 => w (ix2 0 y.2) := by
    pointwise [newMax]
    exact fold_max _
  rw [h]
  refine le_antisymm (Finset.sup_le fun y _ => ?_) (Finset.sup_le fun c _ => ?_)
  · rw [hw]; exact Finset.le_sup (f := fun c => left x k' (fl q c)) (Finset.mem_univ y.2)
  · rw [← hw]; exact Finset.le_sup (f := fun y : Fin 1 × Fin 80 => w (ix2 0 y.2)) (Finset.mem_univ ((0 : Fin 1), c))

include hm in
theorem newM_eq (r : Fin 40) (c : Fin 125) :
    newM k0_pay4 (BitVec.ofNat 32 (qOf (pick x k)).val) (best x (k.val + 1) (qOf (pick x k)) : Ideal .f32) (rowM hb ms) (ix3 0 r c)
      = best x (k.val + 1) (mq r c) := by
  pointwise [newM, k0_pay4, rowM]
  have hq := (qOf (pick x k)).isLt
  have hw : IntOp.addi (IntOp.muli (BitVec.ofNat 32 r.val) 125#32) (BitVec.ofNat 32 c.val) = BitVec.ofNat 32 (mq r c).val := by
    show BitVec.ofNat 32 r.val * BitVec.ofNat 32 125 + BitVec.ofNat 32 c.val = BitVec.ofNat 32 (r.val * 125 + c.val)
    rw [BitVec.ofNat_add, BitVec.ofNat_mul]
  rw [hw]
  by_cases h : mq r c = qOf (pick x k)
  · rw [h, select_eq, if_pos rfl]
  · have : ¬BitVec.ofNat 32 (mq r c).val = BitVec.ofNat 32 (qOf (pick x k)).val := by
      intro h'
      have := congrArg BitVec.toNat h'
      simp only [BitVec.toNat_ofNat] at this
      have := (mq r c).isLt
      exact h (Fin.ext (by omega))
    rw [best_succ_of_ne x k _ h, ← hm r c]
    rw [select_eq, if_neg this]

theorem fidxOf_eq (i : Fin 400000) (j : S1x1x1.Idx) :
    fidxOf (BitVec.ofNat 32 (qOf i).val) (BitVec.ofNat 32 (cOf i).val) j = BitVec.ofNat 32 i.val := by
  show BitVec.ofNat 32 (i.val / 80) * BitVec.ofNat 32 80 + BitVec.ofNat 32 (i.val % 80) = _
  rw [← BitVec.ofNat_mul, ← BitVec.ofNat_add]
  congr 1
  omega

end Cert.Proof.Select

end
-- ==== Proof.Select.RowInv.lean ====
/-
  WHAT HOLDS BETWEEN TWO ROWS. Row `b` has had `n b` entries extracted: its scores are at −∞ there, its query maxima are
  of what is left, its outputs hold the first `n b` picks. A row's four stores take `n b` to `n b + 1`.
-/
module

public import proofs.«01_k».proof.Proof.Select.Row
public import Idealize.ShloMosaic.Lib.WritesUnit

@[expose] public section

noncomputable section

namespace Cert.Proof.Select

open Cert.KernelIdeal Cert.KernelIdeal.Gen
open Idealize.ShloMosaic Idealize.SL.Sem

/-- The picks so far, as the outputs hold them. -/
def fidxUpTo (x : Fin 16 → Fin 400000 → EReal) (n : Fin 16 → ℕ) (b : Fin 16) (j : Fin 304) : BitVec 32 :=
  if j.val < n b then BitVec.ofNat 32 (pick (x b) ⟨j.val, by omega⟩).val else 0#32

/-- The state of the scratches `S` (scores), `M` (query maxima) and of the outputs `FI` (flat indices), `SC` (scores),
    row `b` after `n b` extractions. -/
structure Inv (x : Fin 16 → Fin 400000 → EReal) (n : Fin 16 → ℕ) (S : Vec Ideal S16x5000x80 .f32) (M : Vec Ideal S16x40x125 .f32)
    (FI : Vec Ideal S16x304x1 .i32) (SC : Vec Ideal S16x300x1 .f32) : Prop where
  s : ∀ b q c, S (ix3 b q c) = left (x b) (n b) (fl q c)
  m : ∀ b r c, M (ix3 b r c) = best (x b) (n b) (mq r c)
  f : ∀ b j, FI (ix3 b j 0) = fidxUpTo x n b j
  o : ∀ b (j : Fin 300), j.val < n b → SC (ix3 b j 0) = x b (pick (x b) ⟨j.val, by omega⟩)

/-- The rows below `b` are one extraction ahead of the rest. -/
def cnt (k b : ℕ) : Fin 16 → ℕ := fun b' => if b'.val < b then k + 1 else k

theorem cnt_zero (k : ℕ) : cnt k 0 = fun _ => k := funext fun _ => if_neg (Nat.not_lt_zero _)

theorem cnt_all (k : ℕ) : cnt k 16 = fun _ => k + 1 := funext fun b => if_pos b.isLt

theorem cnt_self (k : ℕ) (b : Fin 16) : cnt k b.val b = k := if_neg (lt_irrefl _)

theorem cnt_succ_self (k : ℕ) (b : Fin 16) : cnt k (b.val + 1) b = k + 1 := if_pos (by omega)

theorem cnt_succ_of_ne (k : ℕ) (b b' : Fin 16) (h : b' ≠ b) : cnt k (b.val + 1) b' = cnt k b.val b' := by
  have : b'.val ≠ b.val := fun e => h (Fin.ext e)
  unfold cnt
  by_cases h' : b'.val < b.val
  · rw [if_pos h', if_pos (by omega)]
  · rw [if_neg h', if_neg (by omega)]

variable {x : Fin 16 → Fin 400000 → EReal} {k : Fin 400000} {b : Fin 16} {S S' : Vec Ideal S16x5000x80 .f32}
  {M M' : Vec Ideal S16x40x125 .f32} {FI FI' : Vec Ideal S16x304x1 .i32} {SC SC' : Vec Ideal S16x300x1 .f32}

/-- A ROW'S STORES ADVANCE IT BY ONE. -/
theorem Inv.step (h : Inv x (cnt k.val b.val) S M FI SC) (hk : k.val < 300)
    (hs : ∀ c, S' (ix3 b (qOf (pick (x b) k)) c) = left (x b) (k.val + 1) (fl (qOf (pick (x b) k)) c))
    (hs' : ∀ b' q c, ¬(b' = b ∧ q = qOf (pick (x b) k)) → S' (ix3 b' q c) = S (ix3 b' q c))
    (hm : ∀ r c, M' (ix3 b r c) = best (x b) (k.val + 1) (mq r c))
    (hm' : ∀ b' r c, b' ≠ b → M' (ix3 b' r c) = M (ix3 b' r c))
    (hf : ∀ j : Fin 304, j.val = k.val → FI' (ix3 b j 0) = BitVec.ofNat 32 (pick (x b) k).val)
    (hf' : ∀ b' (j : Fin 304), ¬(b' = b ∧ j.val = k.val) → FI' (ix3 b' j 0) = FI (ix3 b' j 0))
    (ho : ∀ j : Fin 300, j.val = k.val → SC' (ix3 b j 0) = x b (pick (x b) k))
    (ho' : ∀ b' (j : Fin 300), ¬(b' = b ∧ j.val = k.val) → SC' (ix3 b' j 0) = SC (ix3 b' j 0)) :
    Inv x (cnt k.val (b.val + 1)) S' M' FI' SC' where
  s b' q c := by
    by_cases hb : b' = b
    · subst hb
      rw [cnt_succ_self]
      by_cases hq : q = qOf (pick (x b') k)
      · subst hq; exact hs c
      · rw [hs' _ _ _ fun e => hq e.2, h.s, cnt_self]
        exact (left_succ_of_ne _ _ _ fun e => hq ((fl_eq_iff _ _ _).mp e).1).symm
    · rw [cnt_succ_of_ne _ _ _ hb, hs' _ _ _ fun e => hb e.1, h.s]
  m b' r c := by
    by_cases hb : b' = b
    · subst hb; rw [cnt_succ_self]; exact hm r c
    · rw [cnt_succ_of_ne _ _ _ hb, hm' _ _ _ hb, h.m]
  f b' j := by
    by_cases hb : b' = b
    · subst hb
      by_cases hj : j.val = k.val
      · rw [hf j hj, fidxUpTo, cnt_succ_self, if_pos (by omega)]
        congr 3
        exact Fin.ext hj.symm
      · rw [hf' _ _ fun e => hj e.2, h.f, fidxUpTo, fidxUpTo, cnt_succ_self, cnt_self]
        by_cases hlt : j.val < k.val
        · rw [if_pos hlt, if_pos (by omega)]
        · rw [if_neg hlt, if_neg (by omega)]
    · rw [hf' _ _ fun e => hb e.1, h.f, fidxUpTo, fidxUpTo, cnt_succ_of_ne _ _ _ hb]
  o b' j hj := by
    by_cases hb : b' = b
    · subst hb
      rw [cnt_succ_self] at hj
      by_cases hj' : j.val = k.val
      · rw [ho j hj']
        congr 2
        exact Fin.ext hj'.symm
      · rw [ho' _ _ fun e => hj' e.2]
        exact h.o _ j (by rw [cnt_self]; omega)
    · rw [cnt_succ_of_ne _ _ _ hb] at hj
      rw [ho' _ _ fun e => hb e.1]
      exact h.o _ j hj

section Stores

variable {arg3 : View sig .tc .vmem S16x304x1 .i32} {arg4 : View sig .tc .vmem S16x300x1 .f32}
  {arg5 : View sig .tc .vmem S16x5000x80 .f32} {arg6 : View sig .tc .vmem S16x40x125 .f32}
  {f3 : arg3.ty.Contents (Elt Ideal)} {f4 : arg4.ty.Contents (Elt Ideal)} {f5 : arg5.ty.Contents (Elt Ideal)}
  {f6 : arg6.ty.Contents (Elt Ideal)} {off5 off3 : Fin 3 → ℕ}

/-- The same of the four stores as a row makes them: one query's scores, the row's query maxima, one flat index, one score. -/
theorem Inv.stores (h : Inv x (cnt k.val b.val) (arg5.read (Elt Ideal) f5) (arg6.read (Elt Ideal) f6)
      (arg3.read (Elt Ideal) f3) (arg4.read (Elt Ideal) f4)) (hk : k.val < 300)
    (q : Fin 5000) (hq : q = qOf (pick (x b) k)) (h5 : off5 = ![b.val, q.val, 0]) (h3 : off3 = ![b.val, k.val, 0])
    (i5 : ∀ a, off5 a + S1x1x80.size a ≤ S16x5000x80.size a)
    (i6 : ∀ a, (![b.val, 0, 0] : Fin 3 → ℕ) a + S1x40x125.size a ≤ S16x40x125.size a)
    (i3 : ∀ a, off3 a + S1x1x1.size a ≤ S16x304x1.size a) (i4 : ∀ a, off3 a + S1x1x1.size a ≤ S16x300x1.size a)
    (w5 : FVec Ideal S1x1x80 .f32) (hw5 : ∀ c, w5 (ix3 0 0 c) = left (x b) (k.val + 1) (fl q c))
    (w6 : FVec Ideal S1x40x125 .f32) (hw6 : ∀ r c, w6 (ix3 0 r c) = best (x b) (k.val + 1) (mq r c))
    (w3 : IVec S1x1x1 32) (hw3 : w3 (ix3 0 0 0) = BitVec.ofNat 32 (pick (x b) k).val)
    (w4 : FVec Ideal S1x1x1 .f32) (hw4 : w4 (ix3 0 0 0) = x b (pick (x b) k)) :
    Inv x (cnt k.val (b.val + 1))
      (arg5.read (Elt Ideal) (arg5.writes (Elt Ideal) f5 [⟨Rect.unit (s := S16x5000x80) off5 S1x1x80.size i5, w5⟩]))
      (arg6.read (Elt Ideal) (arg6.writes (Elt Ideal) f6 [⟨Rect.unit (s := S16x40x125) ![b.val, 0, 0] S1x40x125.size i6, w6⟩]))
      (arg3.read (Elt Ideal) (arg3.writes (Elt Ideal) f3 [⟨Rect.unit (s := S16x304x1) off3 S1x1x1.size i3, w3⟩]))
      (arg4.read (Elt Ideal) (arg4.writes (Elt Ideal) f4 [⟨Rect.unit (s := S16x300x1) off3 S1x1x1.size i4, w4⟩])) := by
  refine h.step hk (fun c => ?_) (fun b' q' c h => ?_) (fun r c => ?_) (fun b' r c h => ?_)
    (fun t ht => ?_) (fun b' t h => ?_) (fun t ht => ?_) (fun b' t h => ?_)
  · rw [← hq]
    exact (View.read_writes_cons_unit_of_mem arg5 f5 i5 w5 [] (ix3 b q c) (ix3 0 0 c) h5 (fun a => by
      match a with
      | 0 => rfl
      | 1 => rfl
      | 2 => exact (Nat.zero_add _).symm)).trans (hw5 c)
  · rw [← hq] at h
    by_cases hb : b' = b
    · have hq' : q'.val ≠ q.val := fun e => h ⟨hb, Fin.ext e⟩
      exact View.read_writes_cons_unit_of_not_mem arg5 f5 i5 w5 [] (ix3 b' q' c) h5 1 (show q'.val < q.val ∨ q.val + 1 ≤ q'.val by omega)
    · have hb' : b'.val ≠ b.val := fun e => hb (Fin.ext e)
      exact View.read_writes_cons_unit_of_not_mem arg5 f5 i5 w5 [] (ix3 b' q' c) h5 0 (show b'.val < b.val ∨ b.val + 1 ≤ b'.val by omega)
  · exact (View.read_writes_cons_unit_of_mem arg6 f6 i6 w6 [] (ix3 b r c) (ix3 0 r c) rfl (fun a => by
      match a with
      | 0 => rfl
      | 1 => exact (Nat.zero_add _).symm
      | 2 => exact (Nat.zero_add _).symm)).trans (hw6 r c)
  · have hb' : b'.val ≠ b.val := fun e => h (Fin.ext e)
    exact View.read_writes_cons_unit_of_not_mem arg6 f6 i6 w6 [] (ix3 b' r c) rfl 0 (show b'.val < b.val ∨ b.val + 1 ≤ b'.val by omega)
  · exact (View.read_writes_cons_unit_of_mem arg3 f3 i3 w3 [] (ix3 b t 0) (ix3 0 0 0) h3 (fun a => by
      match a with
      | 0 => rfl
      | 1 => exact ht
      | 2 => rfl)).trans hw3
  · by_cases hb : b' = b
    · have ht : t.val ≠ k.val := fun e => h ⟨hb, e⟩
      exact View.read_writes_cons_unit_of_not_mem arg3 f3 i3 w3 [] (ix3 b' t 0) h3 1 (show t.val < k.val ∨ k.val + 1 ≤ t.val by omega)
    · have hb' : b'.val ≠ b.val := fun e => hb (Fin.ext e)
      exact View.read_writes_cons_unit_of_not_mem arg3 f3 i3 w3 [] (ix3 b' t 0) h3 0 (show b'.val < b.val ∨ b.val + 1 ≤ b'.val by omega)
  · exact (View.read_writes_cons_unit_of_mem arg4 f4 i4 w4 [] (ix3 b t 0) (ix3 0 0 0) h3 (fun a => by
      match a with
      | 0 => rfl
      | 1 => exact ht
      | 2 => rfl)).trans hw4
  · by_cases hb : b' = b
    · have ht : t.val ≠ k.val := fun e => h ⟨hb, e⟩
      exact View.read_writes_cons_unit_of_not_mem arg4 f4 i4 w4 [] (ix3 b' t 0) h3 1 (show t.val < k.val ∨ k.val + 1 ≤ t.val by omega)
    · have hb' : b'.val ≠ b.val := fun e => hb (Fin.ext e)
      exact View.read_writes_cons_unit_of_not_mem arg4 f4 i4 w4 [] (ix3 b' t 0) h3 0 (show b'.val < b.val ∨ b.val + 1 ≤ b'.val by omega)

end Stores

end Cert.Proof.Select

end
-- ==== Proof.Select.Fill.lean ====
/-
  WHAT THE FILLING POINTS STORE: the scores `1 / (1 + exp (-x))` of one image and the greatest of them per query; and
  the scratches after `n` images.
-/
module

public import proofs.«01_k».proof.Proof.Select.RowInv

@[expose] public section

noncomputable section

namespace Cert.Proof.Select

open Cert.KernelIdeal Cert.KernelIdeal.Gen
open Idealize.ShloMosaic Idealize.SL.Sem

theorem exp_nonneg (y : EReal) : 0 ≤ Ideal.exp y := by
  induction y with
  | bot => exact le_refl _
  | top => exact le_top
  | coe r => exact EReal.coe_nonneg.mpr (Real.exp_pos r).le

/-- A score is above −∞. -/
theorem bot_lt_score (y : EReal) : ⊥ < Ideal.logistic y := by
  have h : (0 : EReal) < 1 + Ideal.exp (-y) := lt_of_lt_of_le zero_lt_one (le_add_of_nonneg_right (exp_nonneg _))
  rw [Ideal.logistic, Ideal.div]
  rw [if_neg h.ne', one_mul]
  exact lt_of_lt_of_le EReal.bot_lt_zero (EReal.inv_nonneg_of_nonneg h.le)

/-- The scores of an array of logits, image by image, flat. -/
def scoresOf (L : Fin 16 → Fin 5000 → Fin 80 → EReal) : Fin 16 → Fin 400000 → EReal := fun b i => Ideal.logistic (L b (qOf i) (cOf i))

theorem scoresOf_fl (L : Fin 16 → Fin 5000 → Fin 80 → EReal) (b : Fin 16) (q : Fin 5000) (c : Fin 80) :
    scoresOf L b (fl q c) = Ideal.logistic (L b q c) := by
  have h := (fl_eq_iff q c (fl q c)).mp rfl
  unfold scoresOf
  rw [← h.1, ← h.2]

theorem pay1_eq (v : Vec Ideal S1x5000x80 .f32) (q : Fin 5000) (c : Fin 80) :
    k0_pay1 (F := Ideal) v (ix3 0 q c) = Ideal.logistic (v (ix3 0 q c)) := by
  unfold k0_pay1
  pointwise
  rw [zero_sub]
  rfl

theorem pay2_eq (v : Vec Ideal S1x40x125x80 .f32) (r : Fin 40) (c : Fin 125) :
    k0_pay2 (F := Ideal) v (ix3 0 r c) = Finset.univ.sup fun e : Fin 80 => Ideal.logistic (v (ix4 0 r c e)) := by
  unfold k0_pay2
  pointwise
  rw [fold_max]
  simp only [zero_sub]
  rfl

theorem pay3_eq (b : Fin 16) (j : Fin 304) : k0_pay3 (ix3 b j 0) = 0#32 := rfl

/-- The scores' scratch after `n` images. -/
def FilledS (x : Fin 16 → Fin 400000 → EReal) (n : ℕ) (S : Vec Ideal S16x5000x80 .f32) : Prop :=
  ∀ b : Fin 16, b.val < n → ∀ q c, S (ix3 b q c) = x b (fl q c)

/-- The query maxima's scratch after `n` images. -/
def FilledM (x : Fin 16 → Fin 400000 → EReal) (n : ℕ) (M : Vec Ideal S16x40x125 .f32) : Prop :=
  ∀ b : Fin 16, b.val < n → ∀ r c, M (ix3 b r c) = best (x b) 0 (mq r c)

end Cert.Proof.Select

end
-- ==== Proof.Select.RowRun.lean ====
/-
  A ROW'S ACCESSES, RUN. From the state with the rows below `b` one extraction ahead, row `b` of the step runs to the
  state with the rows below `b + 1` ahead; so the sixteen rows run from every row at `k` to every row at `k + 1`.
-/
module

public import proofs.«01_k».proof.Proof.Select.RowInv
public import proofs.«01_k».proof.Proof.Gen.KernelIdeal.Loops
public import Idealize.ShloMosaic.Lib.WritesUnit
public import Idealize.ShloMosaic.Lib.Pipeline.FrameBody

@[expose] public section

set_option maxRecDepth 16384

noncomputable section

namespace Cert.Proof.Select

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The four buffers, held at contents that satisfy the invariant. -/
def St (c : Dev nD) (arg3 : Memref sig .tc .vmem S16x304x1 .i32) (arg4 : Memref sig .tc .vmem S16x300x1 .f32)
    (arg5 : Memref sig .tc .vmem S16x5000x80 .f32) (arg6 : Memref sig .tc .vmem S16x40x125 .f32)
    (x : Fin 16 → Fin 400000 → EReal) (n : Fin 16 → ℕ) : sProp 𝕄 :=
  iprop(∃ f3, ∃ f4, ∃ f5, ∃ f6, ⌜Inv x n (arg5.view.read (Elt Ideal) f5) (arg6.view.read (Elt Ideal) f6)
      (arg3.view.read (Elt Ideal) f3) (arg4.view.read (Elt Ideal) f4)⌝
    ∗ (arg3.view.loc (c : Thread nD τ) ↦[arg3.view.set]{fullShare} f3)
    ∗ (arg4.view.loc (c : Thread nD τ) ↦[arg4.view.set]{fullShare} f4)
    ∗ (arg5.view.loc (c : Thread nD τ) ↦[arg5.view.set]{fullShare} f5)
    ∗ (arg6.view.loc (c : Thread nD τ) ↦[arg6.view.set]{fullShare} f6))

variable (c : Dev nD) (i : grid0.Coords) (arg3 : Memref sig .tc .vmem S16x304x1 .i32) (arg4 : Memref sig .tc .vmem S16x300x1 .f32)
  (arg5 : Memref sig .tc .vmem S16x5000x80 .f32) (arg6 : Memref sig .tc .vmem S16x40x125 .f32) (h2 : k0_cond2 i = 1#1)
  (x : Fin 16 → Fin 400000 → EReal) (hx : ∀ b i, ⊥ < x b i)

theorem offS_eq (b : ℕ) (i : Fin 400000) : offS b (BitVec.ofNat 32 (qOf i).val) = ![b, (qOf i).val, 0] := by
  have := (qOf i).isLt
  have h : (Scalar.indexCast (BitVec.ofNat 32 (qOf i).val)).toNat = (qOf i).val := by
    show (BitVec.ofNat 32 (qOf i).val).toNat = _
    rw [BitVec.toNat_ofNat]; omega
  unfold offS
  rw [h]

theorem offJ_eq (b : ℕ) (j : Fin k0_t1_loop.trips) : offJ b j = ![b, j.val, 0] := by
  have h : (Scalar.indexCast (Scf.iv 0#32 1#32 j)).toNat = j.val := congrFun (k0_off4_eq j) 1
  unfold offJ
  rw [h]

theorem chkS_pick (b : Fin 16) (i' : Fin 400000) : chkS i b.val (BitVec.ofNat 32 (qOf i').val) := by
  intro _ a
  rw [offS_eq]
  have := (qOf i').isLt
  fin_cases a <;> simp [S1x1x80, S16x5000x80] <;> omega

theorem trips_lt (j : Fin k0_t1_loop.trips) : j.val < 300 := lt_of_lt_of_eq j.isLt (by decide +kernel)

/-- The number of a step, as a place in a row's order. -/
def stepNo (j : Fin k0_t1_loop.trips) : Fin 400000 := ⟨j.val, by have := trips_lt j; omega⟩

/-- Reading a query's scores reads its row of the scratch. -/
theorem readS_row {off : Fin 3 → ℕ} {b : Fin 16} {q : Fin 5000} (hoff : off = ![b.val, q.val, 0])
    (inb : ∀ a, off a + S1x1x80.size a ≤ S16x5000x80.size a) (f : arg5.view.ty.Contents (Elt Ideal)) (u : Fin 1) (c : Fin 80) :
    shapeCast S1x80 (arg5.view.readAt (Elt Ideal) (Rect.unit (s := S16x5000x80) off S1x1x80.size inb).toLoadRect f)
      shapeCasts_S1x1x80_S1x80 (ix2 u c) = arg5.view.read (Elt Ideal) f (ix3 b q c) := by
  subst hoff
  pointwise
  rw [View.readAt_eq_ld]
  refine congrArg (arg5.view.read (Elt Ideal) f) (funext fun a => Fin.ext ?_)
  fin_cases a <;> simp [Rect.unit] <;> omega

/-- A query's scores under a leading unit axis. -/
theorem cast_row (w : FVec Ideal S1x80 .f32) (c : Fin 80) :
    shapeCast S1x1x80 w shapeCasts_S1x80_S1x1x80 (ix3 0 0 c) = w (ix2 0 c) := by
  pointwise

include hx in
/-- What a row's stores leave satisfies the invariant one extraction on. -/
theorem row_pure (j : Fin k0_t1_loop.trips) (ms : Vec Ideal S16x40x125 .f32)
    (hms : ∀ b r c, ms (ix3 b r c) = best (x b) j.val (mq r c)) (b : Fin 16)
    (i5 : ∀ a, offS b.val (BitVec.ofNat 32 (qOf (pick (x b) (stepNo j))).val) a + S1x1x80.size a ≤ S16x5000x80.size a)
    (i6 : ∀ a, (![b.val, 0, 0] : Fin 3 → ℕ) a + S1x40x125.size a ≤ S16x40x125.size a)
    (i3 : ∀ a, offJ b.val j a + S1x1x1.size a ≤ S16x304x1.size a) (i4 : ∀ a, offJ b.val j a + S1x1x1.size a ≤ S16x300x1.size a)
    (f3 : arg3.view.ty.Contents (Elt Ideal)) (f4 : arg4.view.ty.Contents (Elt Ideal))
    (f5 : arg5.view.ty.Contents (Elt Ideal)) (f6 : arg6.view.ty.Contents (Elt Ideal))
    (hI : Inv x (cnt j.val b.val) (arg5.view.read (Elt Ideal) f5) (arg6.view.read (Elt Ideal) f6)
      (arg3.view.read (Elt Ideal) f3) (arg4.view.read (Elt Ideal) f4)) :
    Inv x (cnt j.val (b.val + 1))
      (arg5.view.read (Elt Ideal) (arg5.view.writes (Elt Ideal) f5 [⟨Rect.unit (s := S16x5000x80)
        (offS b.val (BitVec.ofNat 32 (qOf (pick (x b) (stepNo j))).val)) S1x1x80.size i5,
        shapeCast S1x1x80 (maskedOf (F := Ideal) classes (Scalar.ofBits .f32 0xFF800000#32) (x b (pick (x b) (stepNo j)))
          (shapeCast S1x80 (arg5.view.readAt (Elt Ideal) (Rect.unit (s := S16x5000x80)
            (offS b.val (BitVec.ofNat 32 (qOf (pick (x b) (stepNo j))).val)) S1x1x80.size i5).toLoadRect f5)
            shapeCasts_S1x1x80_S1x80)) shapeCasts_S1x80_S1x1x80⟩]))
      (arg6.view.read (Elt Ideal) (arg6.view.writes (Elt Ideal) f6 [⟨Rect.unit (s := S16x40x125) ![b.val, 0, 0] S1x40x125.size i6,
        newM (F := Ideal) k0_pay4 (BitVec.ofNat 32 (qOf (pick (x b) (stepNo j))).val)
          (newMax (F := Ideal) (maskedOf (F := Ideal) classes (Scalar.ofBits .f32 0xFF800000#32) (x b (pick (x b) (stepNo j)))
          (shapeCast S1x80 (arg5.view.readAt (Elt Ideal) (Rect.unit (s := S16x5000x80)
            (offS b.val (BitVec.ofNat 32 (qOf (pick (x b) (stepNo j))).val)) S1x1x80.size i5).toLoadRect f5)
            shapeCasts_S1x1x80_S1x80))) (rowM b.isLt ms)⟩]))
      (arg3.view.read (Elt Ideal) (arg3.view.writes (Elt Ideal) f3 [⟨Rect.unit (s := S16x304x1) (offJ b.val j) S1x1x1.size i3,
        fidxOf (BitVec.ofNat 32 (qOf (pick (x b) (stepNo j))).val) (clsOf (F := Ideal) classes (x b (pick (x b) (stepNo j)))
          (shapeCast S1x80 (arg5.view.readAt (Elt Ideal) (Rect.unit (s := S16x5000x80)
            (offS b.val (BitVec.ofNat 32 (qOf (pick (x b) (stepNo j))).val)) S1x1x80.size i5).toLoadRect f5)
            shapeCasts_S1x1x80_S1x80))⟩]))
      (arg4.view.read (Elt Ideal) (arg4.view.writes (Elt Ideal) f4 [⟨Rect.unit (s := S16x300x1) (offJ b.val j) S1x1x1.size i4,
        scoreOf (F := Ideal) (x b (pick (x b) (stepNo j)))⟩])) := by
  have hoS := offS_eq b.val (pick (x b) (stepNo j))
  have hoJ := offJ_eq b.val j
  have he : ∀ q c, shapeCast S1x80 (arg5.view.readAt (Elt Ideal) (Rect.unit (s := S16x5000x80)
      (offS b.val (BitVec.ofNat 32 (qOf (pick (x b) (stepNo j))).val)) S1x1x80.size i5).toLoadRect f5)
      shapeCasts_S1x1x80_S1x80 (ix2 q c) = left (x b) (stepNo j).val (fl (qOf (pick (x b) (stepNo j))) c) := by
    intro q c
    rw [readS_row arg5 hoS i5 f5 q c, hI.s]
    exact congrArg (fun n => left (x b) n _) (cnt_self _ _)
  generalize shapeCast S1x80 (arg5.view.readAt (Elt Ideal) (Rect.unit (s := S16x5000x80)
      (offS b.val (BitVec.ofNat 32 (qOf (pick (x b) (stepNo j))).val)) S1x1x80.size i5).toLoadRect f5)
      shapeCasts_S1x1x80_S1x80 = e at he ⊢
  have hmk := maskedOf_eq (x b) (hx b) (stepNo j) e (he 0)
  refine hI.stores (k := stepNo j) (trips_lt j) _ rfl hoS hoJ i5 i6 i3 i4 _ (fun c => ?_) _ (fun r c => ?_) _ ?_ _ ?_
  · exact (cast_row _ c).trans (hmk c)
  · rw [newMax_eq (x b) _ _ _ hmk]
    exact newM_eq (x b) (stepNo j) b.isLt ms (hms b) r c
  · rw [clsOf_eq (x b) (hx b) (stepNo j) e (he 0)]
    exact fidxOf_eq _ _
  · rfl

include hx in
/-- ROW `b`, RUN. -/
theorem row_run (j : Fin k0_t1_loop.trips) (ms : Vec Ideal S16x40x125 .f32)
    (hms : ∀ b r c, ms (ix3 b r c) = best (x b) j.val (mq r c)) (b : Fin 16) (E : Set ℕ) (K : PUnit → sProp 𝕄) :
    iprop(St c arg3 arg4 arg5 arg6 x (cnt j.val b.val) ∗ (St c arg3 arg4 arg5 arg6 x (cnt j.val (b.val + 1)) -∗ K ⟨⟩))
      ⊢ wp frame (wpE (defs₀ (F := Ideal)) Variants.none c none) E
        (rowProg i arg3 arg4 arg5 arg6 h2 classes (Scalar.ofBits .f32 0xFF800000#32) j ms b.val b.isLt) K := by
  have hQ := rowQ_eq (x b) (hx b) (stepNo j) b.isLt ms (hms b)
  have hV := rowV_eq (x b) (stepNo j) b.isLt ms (hms b)
  have hc := chkS_pick i b (pick (x b) (stepNo j))
  have hpure := row_pure arg3 arg4 arg5 arg6 x hx j ms hms b
  unfold rowProg
  rw [hQ, hV]
  unfold rowBody St
  iintro ⟨⟨%f3, %f4, %f5, %f6, %hI, H3, H4, H5, H6⟩, Hk⟩
  sl_exec (disch := exact hc)
  sl_step
  iapply Hk
  iexists _, _, _, _
  isplitr
  rotate_left
  · isplitl [H3]; · iexact H3
    isplitl [H4]; · iexact H4
    isplitl [H5]; · iexact H5
    iexact H6
  ipureintro
  exact hpure _ _ _ _ _ _ _ _ hI

end Cert.Proof.Select

end
-- ==== Proof.Select.Loop.lean ====
/-
  THE EXTRACTION LOOP'S INVARIANT: before trip `k` every row has had `k` entries extracted.
-/
module

public import proofs.«01_k».proof.Proof.Select.Batch
public import proofs.«01_k».proof.Proof.Select.RowRun

@[expose] public section

set_option maxRecDepth 16384

noncomputable section

namespace Cert.Proof.Select

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords) (arg3 : Memref sig .tc .vmem S16x304x1 .i32) (arg4 : Memref sig .tc .vmem S16x300x1 .f32)
  (arg5 : Memref sig .tc .vmem S16x5000x80 .f32) (arg6 : Memref sig .tc .vmem S16x40x125 .f32) (h2 : k0_cond2 i = 1#1)
  (x : Fin 16 → Fin 400000 → EReal) (hx : ∀ b i, ⊥ < x b i)

include hx in
/-- `n` rows from row `b` on, run. -/
theorem rows_run (j : Fin k0_t1_loop.trips) (ms : Vec Ideal S16x40x125 .f32)
    (hms : ∀ b r c, ms (ix3 b r c) = best (x b) j.val (mq r c)) (E : Set ℕ) (K : PUnit → sProp 𝕄) :
    ∀ (n b : ℕ) (hb : b + n = 16),
    iprop(St c arg3 arg4 arg5 arg6 x (cnt j.val b) ∗ (St c arg3 arg4 arg5 arg6 x (cnt j.val 16) -∗ K ⟨⟩))
      ⊢ wp frame (wpE (defs₀ (F := Ideal)) Variants.none c none) E
        (rowsProg i arg3 arg4 arg5 arg6 h2 classes (Scalar.ofBits .f32 0xFF800000#32) j ms n b hb) K
  | 0, b, hb => by
    obtain rfl : b = 16 := hb
    unfold rowsProg
    iintro ⟨Hs, Hk⟩
    sl_step
    iapply Hk
    iexact Hs
  | n + 1, b, hb => by
    unfold rowsProg
    rw [wp_bind]
    refine BIBase.Entails.trans ?_ (row_run c i arg3 arg4 arg5 arg6 h2 x hx j ms hms ⟨b, by omega⟩ E _)
    iintro ⟨Hs, Hk⟩
    isplitl [Hs]; · iexact Hs
    iintro Hs
    iapply (rows_run j ms hms E K n (b + 1) _)
    isplitl [Hs]; · iexact Hs
    iexact Hk

/-- Reading the whole of a buffer. -/
theorem readAt_whole {s : Shape} {e : EltTy} (v : View sig .tc .vmem s e) (off : Fin s.rank → ℕ) (h : ∀ a, off a = 0)
    (inb : ∀ a, off a + s.size a ≤ s.size a) (f : v.ty.Contents (Elt Ideal)) :
    v.readAt (Elt Ideal) (Rect.unit (s := s) off s.size inb).toLoadRect f = v.read (Elt Ideal) f := by
  funext y
  rw [View.readAt_eq_ld]
  refine congrArg (v.read (Elt Ideal) f) (funext fun a => Fin.ext ?_)
  show off a + 1 * (y a).val = (y a).val
  rw [h, Nat.zero_add, Nat.one_mul]

theorem zero3 : ∀ a, (![0, 0, 0] : Fin 3 → ℕ) a = 0 := by decide

theorem zero4 : ∀ a, (![0, 0, 0, 0] : Fin 4 → ℕ) a = 0 := by decide

/-- The query maxima read, and what follows run with them. -/
theorem load_run (f : arg6.view.ty.Contents (Elt Ideal)) (P : Vec Ideal S16x40x125 .f32 → Prog (TpuEff nD τ sig (Elt Ideal) Λ₀ .tc) PUnit)
    (E : Set ℕ) (K : PUnit → sProp 𝕄) :
    iprop((arg6.view.loc (c : Thread nD τ) ↦[arg6.view.set]{fullShare} f)
        ∗ ((arg6.view.loc (c : Thread nD τ) ↦[arg6.view.set]{fullShare} f)
          -∗ wp frame (wpE (defs₀ (F := Ideal)) Variants.none c none) E (P (arg6.view.readAt (Elt Ideal) (Rect.unit (s := S16x40x125)
            ![0, 0, 0] S16x40x125.size inb_S16x40x125_S16x40x125_0_0_0).toLoadRect f)) K))
      ⊢ wp frame (wpE (defs₀ (F := Ideal)) Variants.none c none) E
        (do
          let ms : Vec Ideal S16x40x125 .f32 ← Prog.lift (.load arg6 (Rect.unit (s := S16x40x125) ![0, 0, 0] S16x40x125.size
            inb_S16x40x125_S16x40x125_0_0_0).toLoadRect (View.loadsAt_vmem h_S16x40x125))
          P ms) K := by
  iintro ⟨H6, Hk⟩
  sl_exec
  iapply Hk
  iexact H6

include hx in
/-- ONE TRIP. -/
theorem trip_run (arg1 : Memref sig .tc .vmem S1x40x125x80 .f32) (harg1 : arg1.IsWhole)
    (arg2 : Memref sig .tc .vmem S1x5000x80 .f32) (harg2 : arg2.IsWhole) (harg3 : arg3.IsWhole) (harg4 : arg4.IsWhole)
    (harg5 : arg5.IsWhole) (harg6 : arg6.IsWhole) (j : Fin k0_t1_loop.trips) (E : Set ℕ) :
    St c arg3 arg4 arg5 arg6 x (fun _ => j.val)
      ⊢ wp frame (wpE (defs₀ (F := Ideal)) Variants.none c none) E
        (k0_t1_body (F := Ideal) i arg1 harg1 arg2 harg2 arg3 harg3 arg4 harg4 arg5 harg5 arg6 harg6 h2 classes
          (Scalar.ofBits .f32 0xFF800000#32) j ()) (fun _ => St c arg3 arg4 arg5 arg6 x (fun _ => j.val + 1)) := by
  have hrows := rows_run c i arg3 arg4 arg5 arg6 h2 x hx j
  rw [trip_eq, ← cnt_zero, ← cnt_all]
  conv_lhs => unfold St
  iintro ⟨%f3, %f4, %f5, %f6, %hI, H3, H4, H5, H6⟩
  have hms : ∀ b r c, arg6.view.readAt (Elt Ideal) (Rect.unit (s := S16x40x125) ![0, 0, 0] S16x40x125.size
      inb_S16x40x125_S16x40x125_0_0_0).toLoadRect f6 (ix3 b r c) = best (x b) j.val (mq r c) := fun b r c =>
    (congrFun (readAt_whole arg6.view _ zero3 _ f6) (ix3 b r c)).trans ((hI.m b r c).trans
      (congrArg (fun n => best (x b) n (mq r c)) (congrFun (cnt_zero j.val) b)))
  have hrun := hrows _ hms E (fun _ => St c arg3 arg4 arg5 arg6 x (cnt j.val 16)) 16 0 rfl
  iapply (load_run c arg6 f6)
  isplitl [H6]; · iexact H6
  iintro H6
  iapply hrun
  isplitl [H3 H4 H5 H6]
  rotate_left
  · iintro Hs
    iexact Hs
  unfold St
  iexists f3, f4, f5, f6
  isplitr
  · ipureintro; exact hI
  isplitl [H3]; · iexact H3
  isplitl [H4]; · iexact H4
  isplitl [H5]; · iexact H5
  iexact H6

end Cert.Proof.Select

end
-- ==== Proof.Select.Cases.lean ====
/-
  THE SELECTION'S BODY, RUN, case by case: at a filling point the two scratches get one image's rows, the outputs
  untouched; at the last point the outputs get the picks and their scores.
-/
module

public import proofs.«01_k».proof.Proof.Select.Fill
public import proofs.«01_k».proof.Proof.Select.Loop

@[expose] public section

set_option maxRecDepth 16384

noncomputable section

namespace Cert.Proof.Select

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords) (arg1 : Memref sig .tc .vmem S1x40x125x80 .f32) (harg1 : arg1.IsWhole)
  (arg2 : Memref sig .tc .vmem S1x5000x80 .f32) (harg2 : arg2.IsWhole) (arg3 : Memref sig .tc .vmem S16x304x1 .i32)
  (harg3 : arg3.IsWhole) (arg4 : Memref sig .tc .vmem S16x300x1 .f32) (harg4 : arg4.IsWhole)
  (arg5 : Memref sig .tc .vmem S16x5000x80 .f32) (harg5 : arg5.IsWhole) (arg6 : Memref sig .tc .vmem S16x40x125 .f32)
  (harg6 : arg6.IsWhole)

/-- The scores' scratch after a filling point. -/
theorem fillS (off : Fin 3 → ℕ) (g : ℕ) (hoff : off = ![g, 0, 0])
    (inb : ∀ a, off a + S1x5000x80.size a ≤ S16x5000x80.size a) (f : arg5.view.ty.Contents (Elt Ideal))
    (w : FVec Ideal S1x5000x80 .f32) (b : Fin 16) (q : Fin 5000) (e : Fin 80) :
    arg5.view.read (Elt Ideal) (arg5.view.writes (Elt Ideal) f [⟨Rect.unit (s := S16x5000x80) off S1x5000x80.size inb, w⟩]) (ix3 b q e)
      = if b.val = g then w (ix3 0 q e) else arg5.view.read (Elt Ideal) f (ix3 b q e) := by
  by_cases hb : b.val = g
  · rw [if_pos hb]
    exact View.read_writes_cons_unit_of_mem arg5.view f inb w [] (ix3 b q e) (ix3 0 q e) hoff (fun a => by
      match a with
      | 0 => exact hb
      | 1 => exact (Nat.zero_add _).symm
      | 2 => exact (Nat.zero_add _).symm)
  · rw [if_neg hb]
    exact View.read_writes_cons_unit_of_not_mem arg5.view f inb w [] (ix3 b q e) hoff 0
      (show b.val < g ∨ g + 1 ≤ b.val by omega)

/-- The query maxima's scratch after a filling point. -/
theorem fillM (off : Fin 3 → ℕ) (g : ℕ) (hoff : off = ![g, 0, 0])
    (inb : ∀ a, off a + S1x40x125.size a ≤ S16x40x125.size a) (f : arg6.view.ty.Contents (Elt Ideal))
    (w : FVec Ideal S1x40x125 .f32) (b : Fin 16) (q : Fin 40) (e : Fin 125) :
    arg6.view.read (Elt Ideal) (arg6.view.writes (Elt Ideal) f [⟨Rect.unit (s := S16x40x125) off S1x40x125.size inb, w⟩]) (ix3 b q e)
      = if b.val = g then w (ix3 0 q e) else arg6.view.read (Elt Ideal) f (ix3 b q e) := by
  by_cases hb : b.val = g
  · rw [if_pos hb]
    exact View.read_writes_cons_unit_of_mem arg6.view f inb w [] (ix3 b q e) (ix3 0 q e) hoff (fun a => by
      match a with
      | 0 => exact hb
      | 1 => exact (Nat.zero_add _).symm
      | 2 => exact (Nat.zero_add _).symm)
  · rw [if_neg hb]
    exact View.read_writes_cons_unit_of_not_mem arg6.view f inb w [] (ix3 b q e) hoff 0
      (show b.val < g ∨ g + 1 ≤ b.val by omega)

/-- A FILLING POINT. -/
theorem run_fill (hc0 : k0_cond1 i = 1#1) (hc1 : ¬k0_cond2 i = 1#1) (x0 : Vec Ideal S1x40x125x80 .f32)
    (x1 : Vec Ideal S1x5000x80 .f32) (d2 : Vec Ideal S16x304x1 .i32) (d3 : Vec Ideal S16x300x1 .f32)
    (S : Vec Ideal S16x5000x80 .f32) (M : Vec Ideal S16x40x125 .f32) (E : Set ℕ) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare S ∗ owns (c : Thread nD τ) arg6 fullShare M
        ∗ ((owns (c : Thread nD τ) arg1 fullShare x0 ∗ owns (c : Thread nD τ) arg2 fullShare x1
          ∗ owns (c : Thread nD τ) arg3 fullShare d2 ∗ owns (c : Thread nD τ) arg4 fullShare d3
          ∗ (∃ S' : Vec Ideal S16x5000x80 .f32, ⌜∀ b q e, S' (ix3 b q e) = if b.val = (i 0).val then Ideal.logistic (x1 (ix3 0 q e)) else S (ix3 b q e)⌝
              ∗ owns (c : Thread nD τ) arg5 fullShare S')
          ∗ (∃ M' : Vec Ideal S16x40x125 .f32, ⌜∀ b r e, M' (ix3 b r e) = if b.val = (i 0).val then Finset.univ.sup (fun k : Fin 80 => Ideal.logistic (x0 (ix4 0 r e k)))
              else M (ix3 b r e)⌝ ∗ owns (c : Thread nD τ) arg6 fullShare M')) -∗ K ⟨⟩))
      ⊢ wp frame (wpE (defs₀ (F := Ideal)) Variants.none c none) E
        (cc0__select_body i arg1 harg1 arg2 harg2 arg3 harg3 arg4 harg4 arg5 harg5 arg6 harg6) K := by
  simp only [cc0__select_body_eq_skeleton]; unfold cc0__select_body_skel
  unfold owns
  iintro ⟨⟨%f0, %hf0, H0⟩, ⟨%f1, %hf1, H1⟩, ⟨%f2, %hf2, H2⟩, ⟨%f3, %hf3, H3⟩, ⟨%fs0, %hs0, HS0⟩, ⟨%fs1, %hs1, HS1⟩, Hk⟩
  sl_exec (disch := first | sl_exact hc0 | sl_exact hc1)
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [HS0]
  · iexists _
    isplitr
    swap
    · iexists _
      isplitr
      swap
      · iexact HS0
      ipureintro; rfl
    ipureintro
    intro b q e
    refine (fillS arg5 (k0_off1 i) (i 0).val (k0_off1_eq i) _ fs0 _ b q e).trans ?_
    rw [pay1_eq, hs0, readAt_whole arg2.view _ zero3, hf1]
  iexists _
  isplitr
  swap
  · iexists _
    isplitr
    swap
    · iexact HS1
    ipureintro; rfl
  ipureintro
  intro b q e
  refine (fillM arg6 (k0_off2 i) (i 0).val (k0_off2_eq i) _ fs1 _ b q e).trans ?_
  rw [pay2_eq, hs1, readAt_whole arg1.view _ zero4, hf0]

/-- A store over the whole of a buffer leaves its payload. -/
theorem read_writes_whole {s : Shape} {e : EltTy} (v : View sig .tc .vmem s e) (off : Fin s.rank → ℕ) (h : ∀ a, off a = 0)
    (inb : ∀ a, off a + s.size a ≤ s.size a) (f : v.ty.Contents (Elt Ideal)) (w : s.Idx → Elt Ideal e) :
    v.read (Elt Ideal) (v.writes (Elt Ideal) f [⟨Rect.unit (s := s) off s.size inb, w⟩]) = w := by
  funext y
  exact View.read_writes_cons_unit_of_mem v f inb w [] y y rfl fun a => by rw [h, Nat.zero_add]

variable (x : Fin 16 → Fin 400000 → EReal) (hx : ∀ b i, ⊥ < x b i)

/-- The picks, as the flat indices' array holds them. -/
def picks : Vec Ideal S16x304x1 .i32 := fun y => fidxUpTo x (fun _ => 300) (y 0) (y 1)

/-- Their scores. -/
def pickScores : Vec Ideal S16x300x1 .f32 := fun y => x (y 0) (pick (x (y 0)) ⟨(y 1).val, lt_trans (y 1).isLt (by decide)⟩)

/-- The outputs after all the extractions. -/
theorem Inv.outs {S M FI SC} (h : Inv x (fun _ => 300) S M FI SC) : FI = picks x ∧ SC = pickScores x := by
  refine ⟨funext fun y => ?_, funext fun y => ?_⟩
  · have hy : y = ix3 (y 0) (y 1) 0 := funext fun a => by
      match a with
      | 0 => rfl
      | 1 => rfl
      | 2 => exact Subsingleton.elim (α := Fin 1) _ _
    rw [hy]
    exact h.f _ _
  · have hy : y = ix3 (y 0) (y 1) 0 := funext fun a => by
      match a with
      | 0 => rfl
      | 1 => rfl
      | 2 => exact Subsingleton.elim (α := Fin 1) _ _
    rw [hy]
    exact h.o _ _ (y 1).isLt

/-- The state before the first extraction. -/
theorem Inv.start {S M FI SC} (hS : FilledS x 16 S) (hM : FilledM x 16 M) (hFI : FI = k0_pay3) : Inv x (fun _ => 0) S M FI SC where
  s b q e := by rw [hS b b.isLt]; exact (left_zero (x b) _).symm
  m b r e := hM b b.isLt r e
  f b j := by rw [hFI, pay3_eq, fidxUpTo, if_neg (Nat.not_lt_zero _)]
  o b j h := absurd h (Nat.not_lt_zero _)

include hx in
/-- THE LAST POINT. -/
theorem run_extract (hc0 : ¬k0_cond1 i = 1#1) (hc1 : k0_cond2 i = 1#1) (x0 : Vec Ideal S1x40x125x80 .f32)
    (x1 : Vec Ideal S1x5000x80 .f32) (d2 : Vec Ideal S16x304x1 .i32) (d3 : Vec Ideal S16x300x1 .f32)
    (S : Vec Ideal S16x5000x80 .f32) (M : Vec Ideal S16x40x125 .f32) (hS : FilledS x 16 S) (hM : FilledM x 16 M)
    (E : Set ℕ) (K : PUnit → sProp 𝕄) :
    iprop(owns (c : Thread nD τ) arg1 fullShare x0 ∗ owns (c : Thread nD τ) arg2 fullShare x1
        ∗ owns (c : Thread nD τ) arg3 fullShare d2 ∗ owns (c : Thread nD τ) arg4 fullShare d3
        ∗ owns (c : Thread nD τ) arg5 fullShare S ∗ owns (c : Thread nD τ) arg6 fullShare M
        ∗ ((owns (c : Thread nD τ) arg1 fullShare x0 ∗ owns (c : Thread nD τ) arg2 fullShare x1
          ∗ owns (c : Thread nD τ) arg3 fullShare (picks x) ∗ owns (c : Thread nD τ) arg4 fullShare (pickScores x)
          ∗ (∃ S' : Vec Ideal S16x5000x80 .f32, owns (c : Thread nD τ) arg5 fullShare S')
          ∗ (∃ M' : Vec Ideal S16x40x125 .f32, owns (c : Thread nD τ) arg6 fullShare M')) -∗ K ⟨⟩))
      ⊢ wp frame (wpE (defs₀ (F := Ideal)) Variants.none c none) E
        (cc0__select_body i arg1 harg1 arg2 harg2 arg3 harg3 arg4 harg4 arg5 harg5 arg6 harg6) K := by
  simp only [cc0__select_body_eq_skeleton]; unfold cc0__select_body_skel
  unfold owns
  iintro ⟨⟨%f0, %hf0, H0⟩, ⟨%f1, %hf1, H1⟩, ⟨%f2, %hf2, H2⟩, ⟨%f3, %hf3, H3⟩, ⟨%fs0, %hs0, HS0⟩, ⟨%fs1, %hs1, HS1⟩, Hk⟩
  sl_exec (disch := first | sl_exact hc0 | sl_exact hc1)
  sl_for (fun k _ => St c arg3 arg4 arg5 arg6 x (fun _ => k)) $$ [H2 H3 HS0 HS1]
  case region =>
    intro k _
    exact trip_run c i arg3 arg4 arg5 arg6 hc1 x hx arg1 harg1 arg2 harg2 harg3 harg4 harg5 harg6 k E
  · unfold St
    iexists _, f3, fs0, fs1
    isplitr
    swap
    · isplitl [H2]; · iexact H2
      isplitl [H3]; · iexact H3
      isplitl [HS0]; · iexact HS0
      iexact HS1
    ipureintro
    refine Inv.start x (by rw [hs0]; exact hS) (by rw [hs1]; exact hM) ?_
    exact read_writes_whole arg3.view _ zero3 _ _ _
  iintro %u Hst
  unfold St
  icases Hst with ⟨%g2, %g3, %gs0, %gs1, %hI, H2, H3, HS0, HS1⟩
  have ho := Inv.outs x hI
  sl_exec
  sl_step
  iapply Hk
  isplitl [H0]
  · iexists f0; isplitr; · ipureintro; exact hf0
    iexact H0
  isplitl [H1]
  · iexists f1; isplitr; · ipureintro; exact hf1
    iexact H1
  isplitl [H2]
  · iexists g2; isplitr; · ipureintro; exact ho.1
    iexact H2
  isplitl [H3]
  · iexists g3; isplitr; · ipureintro; exact ho.2
    iexact H3
  isplitl [HS0]
  · iexists _, gs0; isplitr; swap; · iexact HS0
    ipureintro; rfl
  iexists _, gs1; isplitr; swap; · iexact HS1
  ipureintro; rfl

end Cert.Proof.Select

end
-- ==== Proof.Select.Region0.lean ====
/-
  THE SELECTION'S REGION: what its windows' blocks hold, what the scratches hold from point to point, and its body
  obligation. After the last point the outputs hold the picks and their scores.
-/
module

public import proofs.«01_k».proof.Proof.Select.Cases
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameSuffix
public import Idealize.ShloMosaic.Lib.WordCmp

@[expose] public section

set_option maxRecDepth 16384

noncomputable section

namespace Cert.Proof.Select

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

local notation "𝕄" => MT nD τ sig Unit (Elt Ideal) ℕ (UR sig nD τ) ℕ

variable (V : (c : Dev nD) → (b : Ref sig .tc) → Buf (Elt Ideal) ((c : Thread nD τ).loc b))

/-! ## Blocks -/

/-- Window `w`'s block at point `t`, of the array as the region finds it. -/
def blk0 (c : Dev nD) (w : Fin cfg0.W) (t : Fin cfg0.N) : ((cfg0.win w).xblock (cfg0.grid.coords t)).Idx → Elt Ideal (cfg0.win w).elt :=
  ((cfg0.win w).blk t).view.read (Elt Ideal) (V c (Pipeline.arrRef spec0 w))

/-- An input's staging buffer holds its block at every point, whatever proof data keep the block in place. -/
theorem before_of0 {c : Dev nD} (dat : Dat τ (Elt Ideal) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

theorem before_of1 {c : Dev nD} (dat : Dat τ (Elt Ideal) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The image that a filling point reads. -/
theorem image0 : ∀ t : Fin cfg0.N, t.val < 16 → cc0_transform_0 (grid0.coords t) 0 = t.val :=
  (by decide +kernel : ∀ t : Fin grid0.N, t.val < 16 → cc0_transform_0 (grid0.coords t) 0 = t.val)

theorem image1 : ∀ t : Fin cfg0.N, t.val < 16 → cc0_transform_1 (grid0.coords t) 0 = t.val :=
  (by decide +kernel : ∀ t : Fin grid0.N, t.val < 16 → cc0_transform_1 (grid0.coords t) 0 = t.val)

theorem blk0_1_apply (c : Dev nD) (t : Fin cfg0.N) (ht : t.val < 16) (q : Fin 5000) (e : Fin 80) :
    (blk0 V c 1 t : Vec Ideal S1x5000x80 .f32) (ix3 0 q e) = (V c main_arg0 : Vec Ideal S16x5000x80 .f32) (ix3 ⟨t.val, ht⟩ q e) := by
  refine congrArg (V c main_arg0 : Vec Ideal S16x5000x80 .f32) (funext fun a => Fin.ext ?_)
  match a with
  | 0 => show cc0_transform_1 (grid0.coords t) 0 * 1 + 1 * 0 = t.val; rw [image1 t ht]; omega
  | 1 => show 0 * 5000 + 1 * q.val = q.val; omega
  | 2 => show 0 * 80 + 1 * e.val = e.val; omega

theorem blk0_0_apply (c : Dev nD) (t : Fin cfg0.N) (ht : t.val < 16) (r : Fin 40) (q : Fin 125) (e : Fin 80) :
    (blk0 V c 0 t : Vec Ideal S1x40x125x80 .f32) (ix4 0 r q e) = (V c main_v0 : Vec Ideal S16x40x125x80 .f32) (ix4 ⟨t.val, ht⟩ r q e) := by
  refine congrArg (V c main_v0 : Vec Ideal S16x40x125x80 .f32) (funext fun a => Fin.ext ?_)
  match a with
  | 0 => show cc0_transform_0 (grid0.coords t) 0 * 1 + 1 * 0 = t.val; rw [image0 t ht]; omega
  | 1 => show 0 * 40 + 1 * r.val = r.val; omega
  | 2 => show 0 * 125 + 1 * q.val = q.val; omega
  | 3 => show 0 * 80 + 1 * e.val = e.val; omega

/-! ## Which points fill, which extracts -/

theorem fills_iff : ∀ t : Fin cfg0.N, k0_cond1 (grid0.coords t) = 1#1 ↔ t.val < 16 :=
  (by decide +kernel : ∀ t : Fin grid0.N, k0_cond1 (grid0.coords t) = 1#1 ↔ t.val < 16)

theorem extracts_iff : ∀ t : Fin cfg0.N, k0_cond2 (grid0.coords t) = 1#1 ↔ t.val = 16 :=
  (by decide +kernel : ∀ t : Fin grid0.N, k0_cond2 (grid0.coords t) = 1#1 ↔ t.val = 16)

theorem coord_val : ∀ t : Fin cfg0.N, (grid0.coords t 0).val = t.val :=
  (by decide +kernel : ∀ t : Fin grid0.N, (grid0.coords t 0).val = t.val)

theorem idle2 : ∀ t : Fin cfg0.N, t.val < 16 → cfg0.idle 2 (grid0.coords t) = true ∧ (cfg0.win 2).flush t = false := by decide +kernel

theorem idle3 : ∀ t : Fin cfg0.N, t.val < 16 → cfg0.idle 3 (grid0.coords t) = true ∧ (cfg0.win 3).flush t = false := by decide +kernel

theorem live23 : ∀ t : Fin cfg0.N, t.val = 16 → cfg0.idle 2 (grid0.coords t) = false ∧ cfg0.idle 3 (grid0.coords t) = false := by decide +kernel

/-- The staging buffers at a point, and the scratches. -/
abbrev mem0 (t : Fin cfg0.N) : Memref sig .tc .vmem S1x40x125x80 .f32 := win0_0.stage (cfg0.slots t 0)
abbrev mem1 (t : Fin cfg0.N) : Memref sig .tc .vmem S1x5000x80 .f32 := win0_1.stage (cfg0.slots t 1)
abbrev mem2 (t : Fin cfg0.N) : Memref sig .tc .vmem S16x304x1 .i32 := win0_2.stage (cfg0.slots t 2)
abbrev mem3 (t : Fin cfg0.N) : Memref sig .tc .vmem S16x300x1 .f32 := win0_3.stage (cfg0.slots t 3)
abbrev scrS : Memref sig .tc .vmem S16x5000x80 .f32 := Memref.whole cc0_scratch0
abbrev scrM : Memref sig .tc .vmem S16x40x125 .f32 := Memref.whole cc0_scratch1

/-- The staging buffers of the other call, at anything. -/
def others (c : Dev nD) : sProp 𝕄 :=
  iprop((∃ f : Buf (Elt Ideal) ((c : Thread nD τ).loc cc1_stg0_0), ((c : Thread nD τ).loc cc1_stg0_0) ↦{fullShare} f)
    ∗ (∃ f : Buf (Elt Ideal) ((c : Thread nD τ).loc cc1_stg0_1), ((c : Thread nD τ).loc cc1_stg0_1) ↦{fullShare} f)
    ∗ (∃ f : Buf (Elt Ideal) ((c : Thread nD τ).loc cc1_stg1_0), ((c : Thread nD τ).loc cc1_stg1_0) ↦{fullShare} f)
    ∗ (∃ f : Buf (Elt Ideal) ((c : Thread nD τ).loc cc1_stg1_1), ((c : Thread nD τ).loc cc1_stg1_1) ↦{fullShare} f)
    ∗ (∃ f : Buf (Elt Ideal) ((c : Thread nD τ).loc cc1_stg2_0), ((c : Thread nD τ).loc cc1_stg2_0) ↦{fullShare} f)
    ∗ (∃ f : Buf (Elt Ideal) ((c : Thread nD τ).loc cc1_stg2_1), ((c : Thread nD τ).loc cc1_stg2_1) ↦{fullShare} f)
    ∗ (∃ f : Buf (Elt Ideal) ((c : Thread nD τ).loc cc1_stg3_0), ((c : Thread nD τ).loc cc1_stg3_0) ↦{fullShare} f)
    ∗ (∃ f : Buf (Elt Ideal) ((c : Thread nD τ).loc cc1_stg3_1), ((c : Thread nD τ).loc cc1_stg3_1) ↦{fullShare} f)
    ∗ (∃ f : Buf (Elt Ideal) ((c : Thread nD τ).loc cc1_stg4_0), ((c : Thread nD τ).loc cc1_stg4_0) ↦{fullShare} f)
    ∗ (∃ f : Buf (Elt Ideal) ((c : Thread nD τ).loc cc1_stg4_1), ((c : Thread nD τ).loc cc1_stg4_1) ↦{fullShare} f))

/-- What the launch hands the region: the scratches at anything, the rest. -/
theorem PhiA0_eq (c : Dev nD) :
    (Pipeline.ΦA spec0 c : sProp 𝕄)
      = iprop(iprop((∃ d, owns (c : Thread nD τ) scrS fullShare d) ∗ (∃ d, owns (c : Thread nD τ) scrM fullShare d) ∗ others c)
          ∗ (∃ r, prngReg c r)) := by
  unfold Pipeline.ΦA others; rw [scopedRest0_eq]; simp only [scrS, scrM, owns_whole]; try rfl

/-! ## The scratches from point to point -/

/-- The scores that the region works on. -/
def scores0 (c : Dev nD) : Fin 16 → Fin 400000 → EReal :=
  scoresOf fun b q e => (V c main_arg0 : Vec Ideal S16x5000x80 .f32) (ix3 b q e)

/-- The tiled operand is the other one, each query's scores at its row and column. -/
def Tiled (c : Dev nD) : Prop := ∀ (b : Fin 16) (r : Fin 40) (q : Fin 125) (e : Fin 80),
  (V c main_v0 : Vec Ideal S16x40x125x80 .f32) (ix4 b r q e) = (V c main_arg0 : Vec Ideal S16x5000x80 .f32) (ix3 b (mq r q) e)

/-- Before point `n` the scratches hold the first `n` images; after the last point, anything. -/
def Phi (c : Dev nD) (n : ℕ) : sProp 𝕄 :=
  iprop(iprop((∃ S, ⌜n ≤ 16 → FilledS (scores0 V c) n S⌝ ∗ owns (c : Thread nD τ) scrS fullShare S)
      ∗ (∃ M, ⌜n ≤ 16 → FilledM (scores0 V c) n M⌝ ∗ owns (c : Thread nD τ) scrM fullShare M) ∗ others c) ∗ (∃ r, prngReg c r))

/-- The region's proof data. -/
def dat0 (c : Dev nD) : Dat τ (Elt Ideal) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => picks (scores0 V c)
    | ⟨3, _⟩ => pickScores (scores0 V c)
  Φ t := Phi V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = picks (scores0 V c) := by dsimp only [dat0]
theorem after0_3 (c : Dev nD) (t : Fin cfg0.N) : (dat0 V c).after 3 t = pickScores (scores0 V c) := by dsimp only [dat0]

theorem before0_0 (c : Dev nD) (t : Fin cfg0.N) (d) : (dat0 V c).before 0 t d = blk0 V c 0 t :=
  before_of0 V (dat0 V c) (A_eq0 V c 0) (after0_0 V c) t d
theorem before0_1 (c : Dev nD) (t : Fin cfg0.N) (d) : (dat0 V c).before 1 t d = blk0 V c 1 t :=
  before_of1 V (dat0 V c) (A_eq0 V c 1) (after0_1 V c) t d

theorem hin0 (c : Dev nD) : Pipeline.ΦA spec0 c ⊢ (dat0 V c).Φ 0 := by
  rw [show (dat0 V c).Φ 0 = Phi V c 0 from rfl, PhiA0_eq]
  unfold Phi
  iintro ⟨⟨⟨%S, HS⟩, ⟨%M, HM⟩, Ho⟩, Hg⟩
  isplitl [HS HM Ho]
  · isplitl [HS]
    · iexists S; isplitr
      · ipureintro; exact fun _ b hb => absurd hb (Nat.not_lt_zero _)
      iexact HS
    isplitl [HM]
    · iexists M; isplitr
      · ipureintro; exact fun _ b hb => absurd hb (Nat.not_lt_zero _)
      iexact HM
    iexact Ho
  iexact Hg

theorem Phi_out0 (c : Dev nD) (t : Fin (cfg0.N + 1)) : (dat0 V c).Φ t ⊢ Pipeline.ΦA spec0 c := by
  rw [show (dat0 V c).Φ t = Phi V c t.val from rfl, PhiA0_eq]
  unfold Phi
  iintro ⟨⟨⟨%S, %hS, HS⟩, ⟨%M, %hM, HM⟩, Ho⟩, Hg⟩
  isplitl [HS HM Ho]
  · isplitl [HS]; · iexists S; iexact HS
    isplitl [HM]; · iexists M; iexact HM
    iexact Ho
  iexact Hg

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (mem0 t) fullShare ((dat0 V c).before 0 t d))
    ∗ (∃ d, owns (c : Thread nD τ) (mem1 t) fullShare ((dat0 V c).before 1 t d))
    ∗ (∃ d, owns (c : Thread nD τ) (mem2 t) fullShare ((dat0 V c).before 2 t d))
    ∗ (∃ d, owns (c : Thread nD τ) (mem3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem filledS_succ (c : Dev nD) (t : Fin cfg0.N) (ht : t.val < 16) {S S' : Vec Ideal S16x5000x80 .f32}
    (hS : FilledS (scores0 V c) t.val S)
    (h : ∀ b q e, S' (ix3 b q e) = if b.val = (grid0.coords t 0).val then Ideal.logistic ((blk0 V c 1 t : Vec Ideal S1x5000x80 .f32) (ix3 0 q e))
      else S (ix3 b q e)) : FilledS (scores0 V c) (t.val + 1) S' := by
  intro b hb q e
  rw [h, coord_val]
  by_cases hbt : b.val = t.val
  · obtain rfl : b = ⟨t.val, ht⟩ := Fin.ext hbt
    rw [if_pos rfl, blk0_1_apply V c t ht, scores0, scoresOf_fl]
  · rw [if_neg hbt]
    exact hS b (by omega) q e

theorem filledM_succ (c : Dev nD) (hT : Tiled V c) (t : Fin cfg0.N) (ht : t.val < 16) {M M' : Vec Ideal S16x40x125 .f32}
    (hM : FilledM (scores0 V c) t.val M)
    (h : ∀ b r q, M' (ix3 b r q) = if b.val = (grid0.coords t 0).val then
        Finset.univ.sup (fun k : Fin 80 => Ideal.logistic ((blk0 V c 0 t : Vec Ideal S1x40x125x80 .f32) (ix4 0 r q k)))
      else M (ix3 b r q)) : FilledM (scores0 V c) (t.val + 1) M' := by
  intro b hb r q
  rw [h, coord_val]
  by_cases hbt : b.val = t.val
  · obtain rfl : b = ⟨t.val, ht⟩ := Fin.ext hbt
    rw [if_pos rfl, best]
    refine Finset.sup_congr rfl fun k _ => ?_
    rw [blk0_0_apply V c t ht, hT, left_zero, scores0, scoresOf_fl]
  · rw [if_neg hbt]
    exact hM b (by omega) r q

set_option maxHeartbeats 800000 in
theorem sound_body0 (c : Dev nD) (hT : Tiled V c) (t : Fin cfg0.N) :
    bodyPre0 V c t ⊢ wp frame (wpE (defs₀ (F := Ideal)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.castSucc = Phi V c t.val from rfl, show (dat0 V c).Φ t.succ = Phi V c (t.val + 1) from rfl]
  rw [show (dat0 V c).leavesExact 0 t = owns (c : Thread nD τ) (mem0 t) fullShare ((dat0 V c).after 0 t) from by
      unfold Dat.leavesExact; rw [show cfg0.idle 0 (grid0.coords t) = false from rfl], after0_0]
  rw [show (dat0 V c).leavesExact 1 t = owns (c : Thread nD τ) (mem1 t) fullShare ((dat0 V c).after 1 t) from by
      unfold Dat.leavesExact; rw [show cfg0.idle 1 (grid0.coords t) = false from rfl], after0_1]
  have hN : t.val < 17 := lt_of_lt_of_eq t.isLt (show cfg0.N = 17 from N_0)
  unfold Phi
  by_cases h0 : t.val < 16
  · rw [Dat.leavesExact_idle (dat0 V c) 2 t (idle2 t h0).1 (idle2 t h0).2, Dat.leavesExact_idle (dat0 V c) 3 t (idle3 t h0).1 (idle3 t h0).2]
    iintro ⟨⟨⟨⟨%S, %hS, HS⟩, ⟨%M, %hM, HM⟩, HR⟩, Hg⟩, Ho, ⟨%d0, H0⟩, ⟨%d1, H1⟩, ⟨%d2, H2⟩, ⟨%d3, H3⟩⟩
    iapply (run_fill c (grid0.coords t) _ _ _ _ _ _ _ _ _ _ _ _ ((fills_iff t).mpr h0)
      (fun h => absurd ((extracts_iff t).mp h) h0.ne) (blk0 V c 0 t) (blk0 V c 1 t) _ _ S M Set.univ _)
    isplitl [H0]; · iexact H0
    isplitl [H1]; · iexact H1
    isplitl [H2]; · iexact H2
    isplitl [H3]; · iexact H3
    isplitl [HS]; · iexact HS
    isplitl [HM]; · iexact HM
    iintro ⟨H0, H1, H2, H3, ⟨%S', %hS', HS⟩, ⟨%M', %hM', HM⟩⟩
    isplitl [HS HM HR Hg]
    · isplitl [HS HM HR]
      · isplitl [HS]
        · iexists S'; isplitr
          · ipureintro; exact fun _ => filledS_succ V c t h0 (hS h0.le) hS'
          iexact HS
        isplitl [HM]
        · iexists M'; isplitr
          · ipureintro; exact fun _ => filledM_succ V c hT t h0 (hM h0.le) hM'
          iexact HM
        iexact HR
      iexact Hg
    isplitl [Ho]; · iexact Ho
    isplitl [H0]; · iexact H0
    isplitl [H1]; · iexact H1
    isplitl [H2]; · iexists _; iexact H2
    iexists _; iexact H3
  · have ht : t.val = 16 := by omega
    rw [show (dat0 V c).leavesExact 2 t = owns (c : Thread nD τ) (mem2 t) fullShare ((dat0 V c).after 2 t) from by
        unfold Dat.leavesExact; rw [(live23 t ht).1], after0_2]
    rw [show (dat0 V c).leavesExact 3 t = owns (c : Thread nD τ) (mem3 t) fullShare ((dat0 V c).after 3 t) from by
        unfold Dat.leavesExact; rw [(live23 t ht).2], after0_3]
    iintro ⟨⟨⟨⟨%S, %hS, HS⟩, ⟨%M, %hM, HM⟩, HR⟩, Hg⟩, Ho, ⟨%d0, H0⟩, ⟨%d1, H1⟩, ⟨%d2, H2⟩, ⟨%d3, H3⟩⟩
    have hS16 : FilledS (scores0 V c) 16 S := ht ▸ hS ht.le
    have hM16 : FilledM (scores0 V c) 16 M := ht ▸ hM ht.le
    iapply (run_extract c (grid0.coords t) _ _ _ _ _ _ _ _ _ _ _ _ (scores0 V c) (fun b i => bot_lt_score _)
      (fun h => h0 ((fills_iff t).mp h)) ((extracts_iff t).mpr ht) (blk0 V c 0 t) (blk0 V c 1 t) _ _ S M hS16 hM16 Set.univ _)
    isplitl [H0]; · iexact H0
    isplitl [H1]; · iexact H1
    isplitl [H2]; · iexact H2
    isplitl [H3]; · iexact H3
    isplitl [HS]; · iexact HS
    isplitl [HM]; · iexact HM
    iintro ⟨H0, H1, H2, H3, ⟨%S', HS⟩, ⟨%M', HM⟩⟩
    isplitl [HS HM HR Hg]
    · isplitl [HS HM HR]
      · isplitl [HS]
        · iexists S'; isplitr
          · ipureintro; exact fun h => absurd h (by omega)
          iexact HS
        isplitl [HM]
        · iexists M'; isplitr
          · ipureintro; exact fun h => absurd h (by omega)
          iexact HM
        iexact HR
      iexact Hg
    isplitl [Ho]; · iexact Ho
    isplitl [H0]; · iexact H0
    isplitl [H1]; · iexact H1
    isplitl [H2]; · iexact H2
    iexact H3

theorem defs₀_row0 (t : Fin cfg0.N) :
    defs₀ (F := Ideal) .tc cfg0.body (cfg0.bodyArgs t (cfg0.slots t)) = bodyAt0 t := by
  unfold defs₀; rw [Defs.onTc_tc]

/-- THE BODY OBLIGATION. -/
theorem body_obligation0 (c : Dev nD) (hT : Tiled V c) :
    BodyObligation (dat0 V c) (defs₀ (F := Ideal)) Variants.none () Set.univ := fun t => by
  rw [bigSep_W0, bigSep_W0, defs₀_row0]
  exact triple_restated (sound_body0 V c hT t) rfl .rfl fun _ => .rfl

end Cert.Proof.Select

end
-- ==== Proof.Select.Region1.lean ====
/-
  THE BOXES' REGION: its windows' blocks, its body's two stores, its body obligation. Every point reads one image's
  boxes, picks and size, and stores that image's decoded boxes and labels.
-/
module

public import proofs.«01_k».proof.Proof.Select.Cases
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameSuffix

@[expose] public section

set_option maxRecDepth 16384

noncomputable section

namespace Cert.Proof.Select

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

local notation "𝕄" => MT nD τ sig Unit (Elt Ideal) ℕ (UR sig nD τ) ℕ

/-! ## The body -/

/-- The decoded boxes that the body stores, of its three inputs. -/
def boxesOut (x0 : Vec Ideal S1x5000x4 .f32) (x1 : Vec Ideal S1x304x1 .i32) (x2 : Vec Ideal S1x1x2 .i32) : Vec Ideal S1x300x4 .f32 :=
  k1_pay1 (F := Ideal) (k1_pay5 (F := Ideal) x1) (k1_pay6 (F := Ideal) x0) (constant S304x4 .f32 0x00000000#32) x2

/-- The labels that it stores, of the picks. -/
def labelsOut (x1 : Vec Ideal S1x304x1 .i32) : Vec Ideal S1x300x1 .i32 := k1_pay4 (F := Ideal) x1

set_option maxHeartbeats 1000000 in
/-- The body at any point: the inputs stay, the outputs become `boxesOut` and `labelsOut`. -/
theorem run_boxes (c : Dev nD) (E : Set ℕ) (i : grid1.Coords) (arg1 : Memref sig .tc .vmem S1x5000x4 .f32) (harg1 : arg1.IsWhole)
    (arg2 : Memref sig .tc .vmem S1x304x1 .i32) (harg2 : arg2.IsWhole) (arg3 : Memref sig .tc .vmem S1x1x2 .i32) (harg3 : arg3.IsWhole)
    (arg4 : Memref sig .tc .vmem S1x300x4 .f32) (harg4 : arg4.IsWhole) (arg5 : Memref sig .tc .vmem S1x300x1 .i32) (harg5 : arg5.IsWhole)
    (x0 : Vec Ideal S1x5000x4 .f32) (x1 : Vec Ideal S1x304x1 .i32) (x2 : Vec Ideal S1x1x2 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (boxesOut x0 x1 x2)
            ∗ owns (c : Thread nD τ) arg5 fullShare (labelsOut x1)) -∗ K ⟨⟩))
      ⊢ wp frame (wpE (defs₀ (F := Ideal)) Variants.none c none) E
          (cc1__boxes_body i arg1 harg1 arg2 harg2 arg3 harg3 arg4 harg4 arg5 harg5) K := by
  simp only [cc1__boxes_body_eq_skeleton]; unfold cc1__boxes_body_skel
  simp only [k1_part1_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  sl_exec
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro
    refine (read_writes_whole arg4.view _ zero3 _ _ _).trans ?_
    rw [boxesOut, ← hf0, ← hf1, ← hf2, ← readAt_whole arg1.view _ zero3 inb_S1x5000x4_S1x5000x4_0_0_0,
      ← readAt_whole arg2.view _ zero3 inb_S1x304x1_S1x304x1_0_0_0, ← readAt_whole arg3.view _ zero3 inb_S1x1x2_S1x1x2_0_0_0]
    rfl
  iexists _; isplitr
  swap; · iexact H4
  ipureintro
  refine (read_writes_whole arg5.view _ zero3 _ _ _).trans ?_
  rw [labelsOut, ← hf1, ← readAt_whole arg2.view _ zero3 inb_S1x304x1_S1x304x1_0_0_0]

/-! ## The region's data, from what it finds -/

variable (V : (c : Dev nD) → (b : Ref sig .tc) → Buf (Elt Ideal) ((c : Thread nD τ).loc b))

/-- Window `w`'s block at point `t`, of the array as the region finds it. -/
def blk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The region's proof data. -/
def dat1 (c : Dev nD) : Dat τ (Elt Ideal) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => boxesOut (blk1 V c 0 t) (blk1 V c 1 t) (blk1 V c 2 t)
    | ⟨4, _⟩ => labelsOut (blk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = boxesOut (blk1 V c 0 t) (blk1 V c 1 t) (blk1 V c 2 t) := by dsimp only [dat1]
theorem after1_4 (c : Dev nD) (t : Fin cfg1.N) : (dat1 V c).after 4 t = labelsOut (blk1 V c 1 t) := by dsimp only [dat1]

/-- Each input's staging buffer holds its block at every point. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]) t d).trans (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A_eq1]) t d).trans (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [A_eq1]) t d).trans (by unfold Dat.fetched Dat.blockOf blk1; rw [A_eq1]; try rfl)

/-- The image that a point reads. -/
theorem imageB0 : ∀ t : Fin cfg1.N, cc1_transform_0 (grid1.coords t) 0 = t.val :=
  (by decide +kernel : ∀ t : Fin grid1.N, cc1_transform_0 (grid1.coords t) 0 = t.val)
theorem imageB1 : ∀ t : Fin cfg1.N, cc1_transform_1 (grid1.coords t) 0 = t.val :=
  (by decide +kernel : ∀ t : Fin grid1.N, cc1_transform_1 (grid1.coords t) 0 = t.val)
theorem imageB2 : ∀ t : Fin cfg1.N, cc1_transform_2 (grid1.coords t) 0 = t.val :=
  (by decide +kernel : ∀ t : Fin grid1.N, cc1_transform_2 (grid1.coords t) 0 = t.val)

/-- A point as an image. -/
abbrev img (t : Fin cfg1.N) : Fin 16 := ⟨t.val, lt_of_lt_of_eq t.isLt (show cfg1.N = 16 from N_1)⟩

theorem blk1_0_apply (c : Dev nD) (t : Fin cfg1.N) (q : Fin 5000) (e : Fin 4) :
    (blk1 V c 0 t : Vec Ideal S1x5000x4 .f32) (ix3 0 q e) = (V c main_arg1 : Vec Ideal S16x5000x4 .f32) (ix3 (img t) q e) := by
  refine congrArg (V c main_arg1 : Vec Ideal S16x5000x4 .f32) (funext fun a => Fin.ext ?_)
  match a with
  | 0 => show cc1_transform_0 (grid1.coords t) 0 * 1 + 1 * 0 = t.val; rw [imageB0 t]; omega
  | 1 => show 0 * 5000 + 1 * q.val = q.val; omega
  | 2 => show 0 * 4 + 1 * e.val = e.val; omega

theorem blk1_1_apply (c : Dev nD) (t : Fin cfg1.N) (j : Fin 304) :
    (blk1 V c 1 t : Vec Ideal S1x304x1 .i32) (ix3 0 j 0) = (V c main_v2_0 : Vec Ideal S16x304x1 .i32) (ix3 (img t) j 0) := by
  refine congrArg (V c main_v2_0 : Vec Ideal S16x304x1 .i32) (funext fun a => Fin.ext ?_)
  match a with
  | 0 => show cc1_transform_1 (grid1.coords t) 0 * 1 + 1 * 0 = t.val; rw [imageB1 t]; omega
  | 1 => show 0 * 304 + 1 * j.val = j.val; omega
  | 2 => rfl

theorem blk1_2_apply (c : Dev nD) (t : Fin cfg1.N) (e : Fin 2) :
    (blk1 V c 2 t : Vec Ideal S1x1x2 .i32) (ix3 0 0 e) = (V c main_v1 : Vec Ideal S16x1x2 .i32) (ix3 (img t) 0 e) := by
  refine congrArg (V c main_v1 : Vec Ideal S16x1x2 .i32) (funext fun a => Fin.ext ?_)
  match a with
  | 0 => show cc1_transform_2 (grid1.coords t) 0 * 1 + 1 * 0 = t.val; rw [imageB2 t]; omega
  | 1 => rfl
  | 2 => show 0 * 2 + 1 * e.val = e.val; omega

/-! ## The body obligation -/

abbrev memB0 (t : Fin cfg1.N) : Memref sig .tc .vmem S1x5000x4 .f32 := win1_0.stage (cfg1.slots t 0)
abbrev memB1 (t : Fin cfg1.N) : Memref sig .tc .vmem S1x304x1 .i32 := win1_1.stage (cfg1.slots t 1)
abbrev memB2 (t : Fin cfg1.N) : Memref sig .tc .vmem S1x1x2 .i32 := win1_2.stage (cfg1.slots t 2)
abbrev memB3 (t : Fin cfg1.N) : Memref sig .tc .vmem S1x300x4 .f32 := win1_3.stage (cfg1.slots t 3)
abbrev memB4 (t : Fin cfg1.N) : Memref sig .tc .vmem S1x300x1 .i32 := win1_4.stage (cfg1.slots t 4)

def bodyPre1 (c : Dev nD) (t : Fin cfg1.N) : sProp 𝕄 :=
  iprop((dat1 V c).Φ t.castSucc ∗ (dat1 V c).owesAt () t.castSucc
    ∗ (∃ d, owns (c : Thread nD τ) (memB0 t) fullShare ((dat1 V c).before 0 t d))
    ∗ (∃ d, owns (c : Thread nD τ) (memB1 t) fullShare ((dat1 V c).before 1 t d))
    ∗ (∃ d, owns (c : Thread nD τ) (memB2 t) fullShare ((dat1 V c).before 2 t d))
    ∗ (∃ d, owns (c : Thread nD τ) (memB3 t) fullShare ((dat1 V c).before 3 t d))
    ∗ (∃ d, owns (c : Thread nD τ) (memB4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (memB0 t) fullShare ((dat1 V c).after 0 t)
    ∗ owns (c : Thread nD τ) (memB1 t) fullShare ((dat1 V c).after 1 t)
    ∗ owns (c : Thread nD τ) (memB2 t) fullShare ((dat1 V c).after 2 t)
    ∗ owns (c : Thread nD τ) (memB3 t) fullShare ((dat1 V c).after 3 t)
    ∗ owns (c : Thread nD τ) (memB4 t) fullShare ((dat1 V c).after 4 t))

theorem sound_body1 (c : Dev nD) (t : Fin cfg1.N) :
    bodyPre1 V c t ⊢ wp frame (wpE (defs₀ (F := Ideal)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (run_boxes c Set.univ (grid1.coords t) _ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row1 (t : Fin cfg1.N) :
    defs₀ (F := Ideal) .tc cfg1.body (cfg1.bodyArgs t (cfg1.slots t)) = bodyAt1 t := by
  unfold defs₀; rw [Defs.onTc_tc]

/-- THE BODY OBLIGATION. -/
theorem body_obligation1 (c : Dev nD) : BodyObligation (dat1 V c) (defs₀ (F := Ideal)) Variants.none () Set.univ := fun t => by
  rw [bigSep_W1, bigSep_W1, defs₀_row1]
  exact triple_restated (sound_body1 V c t) rfl .rfl fun _ => .rfl

end Cert.Proof.Select

end
-- ==== Proof.Select.Reshapes.lean ====
/-
  THE RESHAPES AT AN INDEX, those at the host.
-/
module

public import proofs.«01_k».proof.Proof.Select.Row

@[expose] public section

noncomputable section

namespace Cert.Proof.Select

open Cert.KernelIdeal Cert.KernelIdeal.Gen
open Idealize.ShloMosaic

/-- The tiling of the queries by rows. -/
theorem tile_apply {α : Type} (A : S16x5000x80.Idx → α) (h) (b : Fin 16) (r : Fin 40) (q : Fin 125) (e : Fin 80) :
    shapeCast S16x40x125x80 A h (ix4 b r q e) = A (ix3 b (mq r q) e) := by
  refine shapeCast_apply A _ _ _ ?_
  rw [Shape.rowMajor_val_three, Shape.rowMajor_val_four]
  show (b.val * 5000 + (mq r q).val) * 80 + e.val = ((b.val * 40 + r.val) * 125 + q.val) * 80 + e.val
  rw [show (mq r q).val = r.val * 125 + q.val from rfl]
  ring

/-- The flattening of an image's scores. -/
theorem flatten_apply {α : Type} (A : S16x5000x80.Idx → α) (h) (b : Fin 16) (i : Fin 400000) :
    shapeCast (⟨2, ![16, 400000]⟩ : Shape) A h (ix2 b i) = A (ix3 b (qOf i) (cOf i)) := by
  refine shapeCast_apply A _ _ _ ?_
  rw [Shape.rowMajor_val_three, Shape.rowMajor_val_two]
  show (b.val * 5000 + i.val / 80) * 80 + i.val % 80 = b.val * 400000 + i.val
  have := Nat.div_add_mod i.val 80
  ring_nf
  omega

/-- A unit axis put in. -/
theorem unit_mid_apply {α : Type} (A : S16x2.Idx → α) (h) (b : Fin 16) (e : Fin 2) :
    shapeCast S16x1x2 A h (ix3 b 0 e) = A (ix2 b e) := by
  refine shapeCast_apply A _ _ _ ?_
  rw [Shape.rowMajor_val_three, Shape.rowMajor_val_two]
  show b.val * 2 + e.val = (b.val * 1 + 0) * 2 + e.val
  ring

/-- A unit axis taken off. -/
theorem unit_last_apply {α : Type} (A : S16x300x1.Idx → α) (h) (b : Fin 16) (j : Fin 300) :
    shapeCast S16x300 A h (ix2 b j) = A (ix3 b j 0) := by
  refine shapeCast_apply A _ _ _ ?_
  rw [Shape.rowMajor_val_three, Shape.rowMajor_val_two]
  show (b.val * 300 + j.val) * 1 + 0 = b.val * 300 + j.val
  ring

end Cert.Proof.Select

end
-- ==== Proof.Select.Main.lean ====
/-
  THE KERNEL'S RUN: two reshapes, the selection, the boxes, two reshapes, from the launch to the return, with every
  buffer's contents at the end (`W4`).
-/
module

public import proofs.«01_k».proof.Proof.Select.Region0
public import proofs.«01_k».proof.Proof.Select.Region1
public import proofs.«01_k».proof.Proof.Select.Reshapes
public import Idealize.ShloMosaic.Lib.StableHlo.Run
public import Idealize.ShloMosaic.Lib.Ring
public import Idealize.ShloMosaic.Lib.Tactic

@[expose] public section

set_option maxRecDepth 16384

noncomputable section

namespace Cert.Proof.Select

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The two stretches of reshapes -/

abbrev pre : List (HloOp τ sig (Elt Ideal)) := hostOps0
abbrev post : List (HloOp τ sig (Elt Ideal)) := hostOps2

theorem pre_fresh : pre.Forall fun op => op.fresh = ∅ := by
  simp only [List.Forall]; repeat' constructor
theorem post_fresh : post.Forall fun op => op.fresh = ∅ := by
  simp only [List.Forall]; repeat' constructor

abbrev preW : List (Ref sig .tc) := [main_v0, main_v1]
abbrev postW : List (Ref sig .tc) := [main_v4, main_v5]
theorem pre_writes : pre.Forall fun op => op.writes ⊆ (preW.map (Proc.devRef (τ := τ) .tc)).toFinset :=
  StableHlo.forall_writes_sub_of_map rfl
theorem post_writes : post.Forall fun op => op.writes ⊆ (postW.map (Proc.devRef (τ := τ) .tc)).toFinset :=
  StableHlo.forall_writes_sub_of_map rfl

/-! ## The contents between the items -/

/-- At the launch. -/
abbrev W0 (c : Dev nD) : Valuation τ sig (Elt Ideal) := fun b => m ((c : Dev nD), b)
/-- After the first reshapes. -/
abbrev W1 (c : Dev nD) : Valuation τ sig (Elt Ideal) := StableHlo.after pre (W0 m c)
abbrev V1 (c : Dev nD) (b : Ref sig .tc) : Buf (Elt Ideal) ((c : Thread nD τ).loc b) := W1 m c b
/-- After the selection. -/
def W2 (c : Dev nD) : Valuation τ sig (Elt Ideal) :=
  Pipeline.withArrays spec0 c (W1 m c) fun w => (dat0 (V1 m) c).arrAt w cfg0.N
abbrev V2 (c : Dev nD) (b : Ref sig .tc) : Buf (Elt Ideal) ((c : Thread nD τ).loc b) := W2 m c b
/-- After the boxes. -/
def W3 (c : Dev nD) : Valuation τ sig (Elt Ideal) :=
  Pipeline.withArrays spec1 c (W2 m c) fun w => (dat1 (V2 m) c).arrAt w cfg1.N
abbrev V3 (c : Dev nD) (b : Ref sig .tc) : Buf (Elt Ideal) ((c : Thread nD τ).loc b) := W3 m c b
/-- At the end. -/
abbrev W4 (c : Dev nD) : Valuation τ sig (Elt Ideal) := StableHlo.after post (W3 m c)

theorem W1_of (c : Dev nD) (r : Ref sig .tc) (h : r ∉ preW) : W1 m c (Proc.devRef .tc r) = W0 m c (Proc.devRef .tc r) :=
  StableHlo.after_of_writes_sub pre _ pre_writes h
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem W4_of (c : Dev nD) (r : Ref sig .tc) (h : r ∉ postW) : W4 m c (Proc.devRef .tc r) = W3 m c (Proc.devRef .tc r) :=
  StableHlo.after_of_writes_sub post _ post_writes h

/-- A call leaves what is none of its outputs. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (A_eq0 (V1 m) c w))
  · exact W2_of_ne m c r fun w e => hw ⟨w, e⟩
theorem W3_of (c : Dev nD) (r : Ref sig .tc) (h : ∀ w : Fin cfg1.W, Pipeline.arrRef spec1 w = r → (cfg1.win w).isOut = false) :
    W3 m c (Proc.devRef .tc r) = W2 m c (Proc.devRef .tc r) := by
  by_cases hw : ∃ w : Fin cfg1.W, Pipeline.arrRef spec1 w = r
  · obtain ⟨w, rfl⟩ := hw
    exact (W3_arr m c w).trans (((dat1 (V2 m) c).arrAt_in w (h w rfl) _).trans (A_eq1 (V2 m) c w))
  · exact W3_of_ne m c r fun w e => hw ⟨w, e⟩

/-- The arguments. -/
abbrev args : List (Ref sig .tc) := [main_arg0, main_arg1, main_arg2]
theorem args_pre : ∀ a ∈ args, a ∉ preW := ListAll.forall_mem_of_all_decide (by decide +kernel)
theorem args_post : ∀ a ∈ args, a ∉ postW := ListAll.forall_mem_of_all_decide (by decide +kernel)
theorem args_in0 : ∀ a ∈ args, ∀ w : Fin cfg0.W, Pipeline.arrRef spec0 w = a → (cfg0.win w).isOut = false :=
  ListAll.forall_mem_of_all_decide (by decide +kernel)
theorem args_in1 : ∀ a ∈ args, ∀ w : Fin cfg1.W, Pipeline.arrRef spec1 w = a → (cfg1.win w).isOut = false :=
  ListAll.forall_mem_of_all_decide (by decide +kernel)

theorem W1_args (c : Dev nD) (a) (ha : a ∈ args) : W1 m c (Proc.devRef .tc a) = m ((c : Thread nD τ).loc a) :=
  W1_of m c a (args_pre a ha)
theorem W2_args (c : Dev nD) (a) (ha : a ∈ args) : W2 m c (Proc.devRef .tc a) = m ((c : Thread nD τ).loc a) :=
  (W2_of m c a (args_in0 a ha)).trans (W1_args m c a ha)
theorem W4_args (c : Dev nD) (a) (ha : a ∈ args) : W4 m c (Proc.devRef .tc a) = m ((c : Thread nD τ).loc a) :=
  (W4_of m c a (args_post a ha)).trans ((W3_of m c a (args_in1 a ha)).trans (W2_args m c a ha))

/-- The first reshape tiles the queries by rows. -/
theorem tiled1 (c : Dev nD) : Tiled (V1 m) c := by
  intro b r q e
  rw [show V1 m c main_arg0 = m ((c : Thread nD τ).loc main_arg0) from W1_args m c main_arg0 (by decide)]
  have h : V1 m c main_v0 = shapeCast S16x40x125x80 (m ((c : Thread nD τ).loc main_arg0) : Vec Ideal S16x5000x80 .f32)
      shapeCasts_S16x5000x80_S16x40x125x80 := by
    dsimp only [V1, W1, pre, hostOps0]
    after_results
    rfl
  rw [h]
  exact tile_apply _ _ b r q e

/-! ## The data and what rides along -/

/-- No call has a prefetched table. -/
abbrev noTables : (p : Fin 2) → (pcfgs (F := Ideal) p).Adm := fun p => (cfgs p).toPCfg_adm
/-- Each call's data, from what it finds. -/
def data : (p : Fin 2) → (c : Dev nD) → Dat τ (Elt Ideal) Unit ℕ (UR sig nD τ) ℕ (Pipeline.pin (pcfgs (F := Ideal)) noTables p) c
  | ⟨0, _⟩ => fun c => dat0 (V1 m) c
  | ⟨1, _⟩ => fun c => dat1 (V2 m) c
/-- Nobody owes anybody. -/
abbrev noLevels : GSem nD τ sig → Finset Unit := fun _ => ∅
abbrev level0 : GSem nD τ sig → Unit → ℕ := fun _ _ => 0
/-- Beside the buffers: the core's generator register, and nothing owed. -/
abbrev rest (c : Dev nD) : sProp 𝕄 := iprop((∃ r, prngReg c r) ∗ ∃ W, owes (c : Thread nD τ) (0 : CellTallies nD τ sig Unit) W)
/-- A stretch of reshapes from the contents `W`. -/
abbrev stretch (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ Variants.none noLevels level0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two calls as segments -/

-- a library lemma over the pinned configuration unifies with the printed one only by unfolding in a type
set_option backward.isDefEq.respectTransparency.types false in
/-- The selection: entered at `W1`, left at `W2`. -/
def seg0 : Pipeline.RegionSeg (pcfgs (F := Ideal)) noTables (data m) () defs₀ Variants.none noLevels level0 0 where
  win := launch0.win.to₀
  block_pos := launch0.block_pos
  stage_whole := launch0.stage_whole
  K := PEmpty
  osem k := k.elim
  ho := Pipeline.OwnSemFacts.none _
  hbody c := (body_obligation0 (V1 m) c (tiled1 m c)).loose
  hwaits := Pipeline.hwaits_of_owed_zero _ _ _ _ noLevels level0 0 fun _ _ => rfl
  pre c := iprop(StableHlo.held (c : Thread nD τ) (Pipeline.ucRefs τ sig) (W1 m c) ∗ rest c)
  post c := iprop(StableHlo.held (c : Thread nD τ) (Pipeline.ucRefs τ sig) (W2 m c) ∗ rest c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := Ideal)) noTables (data m) launch0.win launch0.arr_whole c
      ((data m 0 c).share_full fun _ => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m) c
    unfold Pipeline.ΦA at h
    rw [show (data m 0 c).Φ 0 = (dat0 (V1 m) c).Φ 0 from rfl]
    iintro ⟨Hp, -, Hr⟩
    iapply h
    isplitl [Hr]; · iexact Hr
    iexact Hp
  hout c := by
    have h := Phi_out0 (V1 m) c (Fin.last _)
    unfold Pipeline.ΦA at h
    rw [Pipeline.ownSems0_none, show (data m 0 c).Φ (Fin.last _) = (dat0 (V1 m) c).Φ (Fin.last _) from rfl]
    iintro H
    ihave H := h $$ H
    icases H with ⟨Hr, Hp⟩
    isplitl [Hp]; · iexact Hp
    isplitr; · iempintro
    iexact Hr
  hexit c := by
    have hjoin := Pipeline.unscopedBufs_of_arrays (p := 0) (pcfgs (F := Ideal)) noTables (Ix := Unit) (Name := ℕ) (U := UR sig nD τ)
      (Lvl := ℕ) launch0.win launch0.arr_whole c (data m) ((data m 0 c).share_full fun _ => rfl)
      (V1 m c) (V2 m c) ((data m 0 c).arrAt · cfg0.N) (fun w => (W2_arr m c w).symm)
      (fun b hb => W2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The boxes: entered at `W2`, left at `W3`. -/
def seg1 : Pipeline.RegionSeg (pcfgs (F := Ideal)) noTables (data m) () defs₀ Variants.none noLevels level0 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ noLevels level0 1 fun _ _ => rfl
  pre c := iprop(StableHlo.held (c : Thread nD τ) (Pipeline.ucRefs τ sig) (W2 m c) ∗ rest c)
  post c := iprop(StableHlo.held (c : Thread nD τ) (Pipeline.ucRefs τ sig) (W3 m c) ∗ rest c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := Ideal)) noTables (data m) launch1.win launch1.arr_whole c
      ((data m 1 c).share_full fun _ => rfl) (V2 m c) (A_eq1 (V2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (data m 1 c).Φ 0 = Pipeline.ΦA spec1 c from rfl]; unfold Pipeline.ΦA
    iintro ⟨Hp, -, Hr⟩
    isplitl [Hr]; · iexact Hr
    iexact Hp
  hout c := by
    rw [Pipeline.ownSems0_none, show (data m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) noTables (Ix := Unit) (Name := ℕ) (U := UR sig nD τ)
      (Lvl := ℕ) launch1.win launch1.arr_whole c (data m) ((data m 1 c).share_full fun _ => rfl)
      (V2 m c) (V3 m c) ((data m 1 c).arrAt · cfg1.N) (fun w => (W3_arr m c w).symm)
      (fun b hb => W3_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

abbrev items : List (Pipeline.Seg (pcfgs (F := Ideal)) noTables (data m) () defs₀ Variants.none noLevels level0) :=
  [ .host (stretch pre hostOps0_sub pre_fresh (W0 m)), .region (seg0 m), .region (seg1 m),
    .host (stretch post hostOps2_sub post_fresh (W3 m)) ]

theorem main_items (c : Dev nD) : main (F := Ideal) c = Pipeline.Seg.run (items m) := (main_chain c).trans (by chain_rfl)

theorem no_unscoped_sem : ∀ sm : SemLoc sig, sm.isScoped .tc = true := by decide

set_option backward.isDefEq.respectTransparency.types false in
/-- THE RUN: every fair execution ends, every buffer that outlives the calls at `W4`, every semaphore at zero. -/
theorem run : θ_run defs (onTc (τ := τ) (main (F := Ideal))) ⟨m, fun _ => 0, ρ⟩ (fun r =>
    (∀ c : Dev nD, ∀ b ∈ Pipeline.ucRefs τ sig, r.2.mem ((c : Thread nD τ).1, b) = W4 m c b) ∧ r.2.sem = fun _ => 0) :=
  Pipeline.θ_run_regions_kit_sems (pcfgs (F := Ideal)) noTables (data m) () cellOf_inj emb₁ defs₀ Variants.none noLevels level0 m ρ main
    (items m) (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      dsimp only [Pipeline.Seg.post, stretch, Pipeline.HostSeg.ofOps]
      iintro ⟨Hh, Hp, HO⟩
      isplitl [Hh Hp]
      · isplitl [Hh]; · iexact Hh
        iexact Hp
      iexact HO⟩)
    (hinit := by
      refine Pipeline.initEach noLevels level0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h hz => ⟨h, funext fun g => hz g (.inr (no_unscoped_sem g.2))⟩)

end Cert.Proof.Select

end
-- ==== Proof.Select.Arrays.lean ====
/-
  WHAT THE TWO CALLS LEAVE in their result arrays: the selection writes back once, whole; the boxes write back one
  image a point.
-/
module

public import proofs.«01_k».proof.Proof.Select.Main

@[expose] public section

set_option maxRecDepth 16384

noncomputable section

namespace Cert.Proof.Select

open Cert.KernelIdeal Cert.KernelIdeal.Gen
open Idealize.ShloMosaic Idealize.ShloMosaic.TcCoe
open Idealize.ShloMosaic.Pipeline (Dat Cfg Window)

variable (V : (c : Dev nD) → (b : Ref sig .tc) → Buf (Elt Ideal) ((c : Thread nD τ).loc b))

/-! ## The selection's -/

/-- The point that extracts. -/
abbrev tLast : Fin cfg0.N := ⟨16, by rw [show cfg0.N = 17 from N_0]; decide⟩

theorem eq_tLast (t : Fin cfg0.N) (h : t.val % 17 = 16) : t = tLast := by
  have := lt_of_lt_of_eq t.isLt (show cfg0.N = 17 from N_0)
  exact Fin.ext (show t.val = 16 by omega)

theorem place2 (y : S16x304x1.Idx) : ((cfg0.win 2).blk tLast).view.emb y = y := by
  refine funext fun a => Fin.ext ?_
  match a with
  | 0 => show 0 * 16 + 1 * (y 0).val = (y 0).val; omega
  | 1 => show 0 * 304 + 1 * (y 1).val = (y 1).val; omega
  | 2 => show 0 * 1 + 1 * (y 2).val = (y 2).val; omega

theorem place3 (y : S16x300x1.Idx) : ((cfg0.win 3).blk tLast).view.emb y = y := by
  refine funext fun a => Fin.ext ?_
  match a with
  | 0 => show 0 * 16 + 1 * (y 0).val = (y 0).val; omega
  | 1 => show 0 * 300 + 1 * (y 1).val = (y 1).val; omega
  | 2 => show 0 * 1 + 1 * (y 2).val = (y 2).val; omega

theorem final2 (c : Dev nD) : (dat0 V c).arrAt 2 cfg0.N = picks (scores0 V c) := by
  refine (dat0 V c).arrAt_eq_of_cover 2 (picks (scores0 V c)) (fun t hf => ?_) fun i =>
    ⟨tLast, (flush0_2 tLast).mpr rfl, ?_⟩
  · obtain rfl := eq_tLast t ((flush0_2 t).mp hf)
    show (cfg0.win 2).cut (grid0.coords tLast) ((dat0 V c).after 2 tLast) = _
    rw [after0_2]
    funext y
    exact (congrArg (picks (scores0 V c)) (place2 y)).symm
  · have h := ((cfg0.win 2).blk tLast).view.emb_mem_set i
    rwa [place2] at h

theorem final3 (c : Dev nD) : (dat0 V c).arrAt 3 cfg0.N = pickScores (scores0 V c) := by
  refine (dat0 V c).arrAt_eq_of_cover 3 (pickScores (scores0 V c)) (fun t hf => ?_) fun i =>
    ⟨tLast, (flush0_3 tLast).mpr rfl, ?_⟩
  · obtain rfl := eq_tLast t ((flush0_3 t).mp hf)
    show (cfg0.win 3).cut (grid0.coords tLast) ((dat0 V c).after 3 tLast) = _
    rw [after0_3]
    funext y
    exact (congrArg (pickScores (scores0 V c)) (place3 y)).symm
  · have h := ((cfg0.win 3).blk tLast).view.emb_mem_set i
    rwa [place3] at h

/-! ## The boxes' -/

/-- An image's point. -/
abbrev pt (b : Fin 16) : Fin cfg1.N := ⟨b.val, by rw [show cfg1.N = 16 from N_1]; exact b.isLt⟩

theorem imageB3 : ∀ t : Fin cfg1.N, cc1_transform_3 (grid1.coords t) 0 = t.val :=
  (by decide +kernel : ∀ t : Fin grid1.N, cc1_transform_3 (grid1.coords t) 0 = t.val)
theorem imageB4 : ∀ t : Fin cfg1.N, cc1_transform_4 (grid1.coords t) 0 = t.val :=
  (by decide +kernel : ∀ t : Fin grid1.N, cc1_transform_4 (grid1.coords t) 0 = t.val)

theorem placeB3 (t : Fin cfg1.N) (y : S1x300x4.Idx) : ((cfg1.win 3).blk t).view.emb y = ix3 (img t) (y 1) (y 2) := by
  refine funext fun a => Fin.ext ?_
  match a with
  | 0 => show cc1_transform_3 (grid1.coords t) 0 * 1 + 1 * (y 0).val = t.val
         rw [imageB3 t]; have : (y 0).val < 1 := (y 0).isLt; omega
  | 1 => show 0 * 300 + 1 * (y 1).val = (y 1).val; omega
  | 2 => show 0 * 4 + 1 * (y 2).val = (y 2).val; omega

theorem placeB4 (t : Fin cfg1.N) (y : S1x300x1.Idx) : ((cfg1.win 4).blk t).view.emb y = ix3 (img t) (y 1) (y 2) := by
  refine funext fun a => Fin.ext ?_
  match a with
  | 0 => show cc1_transform_4 (grid1.coords t) 0 * 1 + 1 * (y 0).val = t.val
         rw [imageB4 t]; have : (y 0).val < 1 := (y 0).isLt; omega
  | 1 => show 0 * 300 + 1 * (y 1).val = (y 1).val; omega
  | 2 => show 0 * 1 + 1 * (y 2).val = (y 2).val; omega

/-- The decoded boxes of all the images. -/
def allBoxes (c : Dev nD) : Vec Ideal S16x300x4 .f32 := fun i =>
  boxesOut (blk1 V c 0 (pt (i 0))) (blk1 V c 1 (pt (i 0))) (blk1 V c 2 (pt (i 0))) (ix3 0 (i 1) (i 2))

/-- The labels of all the images. -/
def allLabels (c : Dev nD) : Vec Ideal S16x300x1 .i32 := fun i => labelsOut (blk1 V c 1 (pt (i 0))) (ix3 0 (i 1) (i 2))

theorem finalB3 (c : Dev nD) : (dat1 V c).arrAt 3 cfg1.N = allBoxes V c := by
  refine (dat1 V c).arrAt_eq_of_cover 3 (allBoxes V c) (fun t hf => ?_) fun i => ⟨pt (i 0), flush1_3 _, ?_⟩
  · show (cfg1.win 3).cut (grid1.coords t) ((dat1 V c).after 3 t) = _
    rw [after1_3]
    funext y
    refine Eq.trans ?_ (congrArg (allBoxes V c) (placeB3 t y)).symm
    refine congrArg (boxesOut (blk1 V c 0 t) (blk1 V c 1 t) (blk1 V c 2 t)) (funext fun a => Fin.ext ?_)
    match a with
    | 0 => have : (y 0).val < 1 := (y 0).isLt
           show (y 0).val = 0; omega
    | 1 => rfl
    | 2 => rfl
  · have h := ((cfg1.win 3).blk (pt (i 0))).view.emb_mem_set (ix3 0 (i 1) (i 2))
    rw [placeB3] at h
    rw [eq_ix3 i]
    exact h

theorem finalB4 (c : Dev nD) : (dat1 V c).arrAt 4 cfg1.N = allLabels V c := by
  refine (dat1 V c).arrAt_eq_of_cover 4 (allLabels V c) (fun t hf => ?_) fun i => ⟨pt (i 0), flush1_4 _, ?_⟩
  · show (cfg1.win 4).cut (grid1.coords t) ((dat1 V c).after 4 t) = _
    rw [after1_4]
    funext y
    refine Eq.trans ?_ (congrArg (allLabels V c) (placeB4 t y)).symm
    refine congrArg (labelsOut (blk1 V c 1 t)) (funext fun a => Fin.ext ?_)
    match a with
    | 0 => have : (y 0).val < 1 := (y 0).isLt
           show (y 0).val = 0; omega
    | 1 => rfl
    | 2 => rfl
  · have h := ((cfg1.win 4).blk (pt (i 0))).view.emb_mem_set (ix3 0 (i 1) (i 2))
    rw [placeB4] at h
    rw [eq_ix3 i]
    exact h

end Cert.Proof.Select

end
-- ==== Proof.Select.Words.lean ====
/-
  QUERY AND CLASS OF A FLAT INDEX, in words: the quotient and the remainder by 80, which neither program's sign
  corrections change.
-/
module

public import Idealize.ShloMosaic.Lib.Pointwise
public import Idealize.ShloMosaic.PureOps.Ideal

@[expose] public section

namespace Cert.Proof.Select

open Idealize.ShloMosaic

/-- A flat index as a word. -/
abbrev wd (n : ℕ) : BitVec 32 := BitVec.ofNat 32 n

variable (n : ℕ) (hn : n < 400000)

include hn in
theorem toNat_wd : (wd n).toNat = n := by
  rw [BitVec.toNat_ofNat, Nat.mod_eq_of_lt (by omega)]

include hn in
theorem toInt_wd : (wd n).toInt = n := by
  rw [BitVec.toInt_eq_toNat_of_lt (by rw [toNat_wd n hn]; omega), toNat_wd n hn]

include hn in
theorem msb_wd : (wd n).msb = false := by
  rw [BitVec.msb_eq_false_iff_two_mul_lt, toNat_wd n hn]
  omega

theorem wd_inj {a b : ℕ} (ha : a < 400000) (hb : b < 400000) (h : wd a = wd b) : a = b := by
  have := congrArg BitVec.toNat h
  rwa [toNat_wd a ha, toNat_wd b hb] at this

theorem no_corner (w : BitVec 32) : ¬ IntOp.SDivCorner w 80#32 := by
  rintro (h | ⟨_, h⟩)
  · exact absurd h (by decide)
  · exact absurd h (by decide)

include hn in
/-- The quotient. -/
theorem div_wd (u : ArithUnit) : IntOp.divsi u (wd n) 80#32 = wd (n / 80) := by
  rw [IntOp.divsi, if_neg (no_corner _), BitVec.sdiv, msb_wd n hn, show (80#32).msb = false from by decide]
  refine BitVec.eq_of_toNat_eq ?_
  rw [toNat_wd _ (by omega)]
  show ((wd n).udiv 80#32).toNat = n / 80
  rw [BitVec.udiv_eq, BitVec.toNat_udiv, toNat_wd n hn]
  rfl

include hn in
/-- The remainder. -/
theorem rem_wd (u : ArithUnit) : IntOp.remsi u (wd n) 80#32 = wd (n % 80) := by
  rw [IntOp.remsi, if_neg (no_corner _), BitVec.srem, msb_wd n hn, show (80#32).msb = false from by decide]
  refine BitVec.eq_of_toNat_eq ?_
  rw [toNat_wd _ (by omega)]
  show ((wd n).umod 80#32).toNat = n % 80
  rw [BitVec.umod_eq, BitVec.toNat_umod, toNat_wd n hn]
  rfl

include hn in
theorem slt_zero_wd : IntOp.cmpi .slt (wd n) 0#32 = 0#1 := by
  have h : (wd n).slt 0#32 = false := by
    rw [BitVec.slt, toInt_wd n hn]
    simp
  simp only [IntOp.cmpi, h]
  rfl

include hn in
theorem sgt_zero_wd (h0 : 0 < n) : IntOp.cmpi .sgt (wd n) 0#32 = 1#1 := by
  have h : (0#32).slt (wd n) = true := by
    rw [BitVec.slt, toInt_wd n hn]
    simp [h0]
  simp only [IntOp.cmpi, h]
  rfl

theorem ne_self {w : ℕ} (a : BitVec w) : IntOp.cmpi .ne a a = 0#1 := by
  simp [IntOp.cmpi]

theorem andi_zero (a : BitVec 1) : IntOp.andi a 0#1 = 0#1 := by
  simp [IntOp.andi]

theorem zero_andi (a : BitVec 1) : IntOp.andi 0#1 a = 0#1 := by
  simp [IntOp.andi]

theorem select_zero {α : Type} (a b : α) : Scalar.select 0#1 a b = b := by
  simp [Scalar.select]

include hn in
/-- The kernel's floor division: its correction is of no effect. -/
theorem kernel_floor (a : BitVec 32) : Scalar.select
      (IntOp.andi
        (IntOp.cmpi .ne
          (IntOp.subi (BitVec.setWidth 32 (IntOp.cmpi .sgt (wd n) 0#32)) (BitVec.setWidth 32 (IntOp.cmpi .slt (wd n) 0#32)))
          (Scalar.subi (Scalar.extui (Scalar.cmpi .sgt 80#32 0#32)) (Scalar.extui (Scalar.cmpi .slt 80#32 0#32))))
        (IntOp.cmpi .ne (IntOp.remsi .vector (wd n) 80#32) 0#32))
      a (IntOp.divsi .vector (wd n) 80#32) = wd (n / 80) := by
  rw [rem_wd n hn, div_wd n hn]
  rcases Nat.eq_zero_or_pos n with rfl | h0
  · rw [show wd (0 % 80) = 0#32 from rfl, ne_self, andi_zero, select_zero]
  · rw [sgt_zero_wd n hn h0, slt_zero_wd n hn,
      show IntOp.subi (BitVec.setWidth 32 1#1) (BitVec.setWidth 32 0#1)
        = Scalar.subi (Scalar.extui (Scalar.cmpi .sgt 80#32 0#32)) (Scalar.extui (Scalar.cmpi .slt 80#32 0#32)) from by decide,
      ne_self, zero_andi, select_zero]

include hn in
/-- The kernel's class: the index less the quotient times 80. -/
theorem sub_mul_wd : IntOp.subi (wd n) (IntOp.muli (wd (n / 80)) 80#32) = wd (n % 80) := by
  have hm : IntOp.muli (wd (n / 80)) 80#32 = wd (n / 80 * 80) := (BitVec.ofNat_mul ..).symm
  rw [hm]
  show wd n - wd (n / 80 * 80) = wd (n % 80)
  refine BitVec.eq_of_toNat_eq ?_
  rw [BitVec.toNat_sub, toNat_wd n hn, toNat_wd _ (by omega), toNat_wd _ (by omega)]
  omega

/-- A selector's entry: one at the query, zero elsewhere. -/
theorem one_hot (a b : ℕ) (ha : a < 400000) (hb : b < 400000) :
    (FloatOps.sitofp (F := Ideal) .f32 (BitVec.setWidth 32 (IntOp.cmpi .eq (wd a) (wd b))) : EReal) = if a = b then 1 else 0 := by
  by_cases h : a = b
  · subst h
    rw [if_pos rfl, show IntOp.cmpi .eq (wd a) (wd a) = 1#1 from by simp [IntOp.cmpi]]
    show (((BitVec.setWidth 32 1#1).toInt : ℝ) : EReal) = 1
    rw [show (BitVec.setWidth 32 1#1).toInt = 1 from by decide]
    norm_num
  · have hne : (wd a == wd b) = false := by simpa using fun e => h (wd_inj ha hb e)
    rw [if_neg h, show IntOp.cmpi .eq (wd a) (wd b) = 0#1 from by simp only [IntOp.cmpi, hne]; rfl]
    show (((BitVec.setWidth 32 0#1).toInt : ℝ) : EReal) = 0
    rw [show (BitVec.setWidth 32 0#1).toInt = 0 from by decide]
    norm_num

end Cert.Proof.Select
-- ==== Proof.Select.Decode.lean ====
/-
  A PICK'S BOX AND LABEL, as the second call stores them: the selector's product with the boxes is the pick's own row,
  which is then decoded; the label is the pick's class.
-/
module

public import proofs.«01_k».proof.Proof.Select.Region1
public import proofs.«01_k».proof.Proof.Select.Words

@[expose] public section

noncomputable section

namespace Cert.Proof.Select

open Cert.KernelIdeal Cert.KernelIdeal.Gen
open Idealize.ShloMosaic Idealize.ShloMosaic.TcCoe Idealize.ShloMosaic.Tactic

/-- A box from centre and extent to its corners, scaled to the image: coordinate `e` of the box `B` in an image of
    size `s`. -/
def decode (B : Fin 4 → EReal) (s : Fin 2 → BitVec 32) (e : Fin 4) : EReal :=
  (if h : e.val < 2 then B e - B ⟨2 + e.val, by omega⟩ * Ideal.ofBits FTy.f32 1056964608#32
    else B ⟨e.val - 2, by omega⟩ + B ⟨2 + (e.val - 2), by omega⟩ * Ideal.ofBits FTy.f32 1056964608#32)
  * (if h : e.val < 2 then FloatOps.sitofp (F := Ideal) FTy.f32 (s ⟨e.val, h⟩)
    else FloatOps.sitofp (F := Ideal) FTy.f32 (s ⟨e.val - 2, by omega⟩))

variable (x0 : Vec Ideal S1x5000x4 .f32) (x1 : Vec Ideal S1x304x1 .i32) (x2 : Vec Ideal S1x1x2 .i32)
variable (n : ℕ) (hn : n < 400000) (j : Fin 304) (hj : x1 (ix3 0 j 0) = wd n)

include hn hj in
theorem query_eq : k1_pay3 (F := Ideal) x1 (ix2 j 0) = wd (n / 80) := by
  pointwise [k1_pay3, k1_pay2]
  rw [hj]
  exact kernel_floor n hn _

include hn hj in
/-- The selector's row: one at the pick's query. -/
theorem selector_eq (q : Fin 5000) : k1_pay5 (F := Ideal) x1 (ix2 j q) = if n / 80 = q.val then (1 : EReal) else 0 := by
  pointwise [k1_pay5]
  rw [query_eq x1 n hn j hj]
  exact one_hot _ _ (by omega) (by omega)

theorem row_eq (q : Fin 5000) (e : Fin 4) : k1_pay6 (F := Ideal) x0 (ix2 q e) = x0 (ix3 0 q e) := by
  pointwise [k1_pay6]

include hn hj in
/-- The selector's row times the boxes is the pick's box. -/
theorem select_row (e : Fin 4) :
    ∑ q, k1_pay5 (F := Ideal) x1 (ix2 j q) * k1_pay6 (F := Ideal) x0 (ix2 q e) = x0 (ix3 0 ⟨n / 80, by omega⟩ e) := by
  rw [Finset.sum_eq_single (⟨n / 80, by omega⟩ : Fin 5000)]
  · rw [selector_eq x1 n hn j hj, if_pos rfl, row_eq, one_mul]
  · intro q _ hq
    rw [selector_eq x1 n hn j hj, if_neg fun h => hq (Fin.ext h.symm), zero_mul]
  · exact fun h => absurd (Finset.mem_univ _) h

include hn in
theorem boxesOut_apply (j : Fin 300) (hj : x1 (ix3 0 ⟨j.val, by omega⟩ 0) = wd n) (e : Fin 4) :
    boxesOut x0 x1 x2 (ix3 0 j e)
      = decode (fun e => x0 (ix3 0 ⟨n / 80, by omega⟩ e)) (fun k => x2 (ix3 0 0 k)) e := by
  unfold boxesOut decode
  pointwise [k1_pay1]
  simp only [select_row x0 x1 n hn _ hj]

include hn in
theorem labelsOut_apply (j : Fin 300) (hj : x1 (ix3 0 ⟨j.val, by omega⟩ 0) = wd n) :
    labelsOut x1 (ix3 0 j 0) = wd (n % 80) := by
  unfold labelsOut
  pointwise [k1_pay4, k1_pay2]
  rw [query_eq x1 n hn _ hj, hj]
  exact sub_mul_wd n hn

end Cert.Proof.Select
-- ==== Proof.Select.Results.lean ====
/-
  THE THREE RESULTS, as functions of the arguments, and the kernel's run ending with them.
-/
module

public import proofs.«01_k».proof.Proof.Select.Arrays
public import proofs.«01_k».proof.Proof.Select.Decode

@[expose] public section

set_option maxRecDepth 16384

noncomputable section

namespace Cert.Proof.Select

open Cert.KernelIdeal Cert.KernelIdeal.Gen
open Idealize.ShloMosaic Idealize.ShloMosaic.TcCoe
open Idealize.SL.Sem

/-! ## The results -/

variable (A0 : S16x5000x80.Idx → EReal) (A1 : S16x5000x4.Idx → EReal) (A2 : S16x2.Idx → BitVec 32)

/-- The scores of all the images' queries and classes, in flat order. -/
def flat : Fin 16 → Fin 400000 → EReal := scoresOf fun b q e => A0 (ix3 b q e)

/-- Image `b`'s pick `j`: the flat index of its `j`-th greatest score, the lower index first among equals. -/
def top (b : Fin 16) (j : Fin 300) : Fin 400000 := pick (flat A0 b) ⟨j.val, by omega⟩

/-- The picks' classes. -/
def labels : S16x300.Idx → BitVec 32 := fun y => wd ((top A0 (y 0) (y 1)).val % 80)

/-- The picks' decoded boxes. -/
def boxes : S16x300x4.Idx → EReal := fun y =>
  decode (fun e => A1 (ix3 (y 0) (qOf (top A0 (y 0) (y 1))) e)) (fun k => A2 (ix2 (y 0) k)) (y 2)

/-- The picks' scores. -/
def scores : S16x300.Idx → EReal := fun y => flat A0 (y 0) (top A0 (y 0) (y 1))

/-! ## The kernel's -/

variable (m : (ℓ : Loc nD τ sig) → Buf (Elt Ideal) ℓ) (ρ : Dev nD → PrngReg)

/-- The arguments in a memory. -/
abbrev arg0 (c : Dev nD) : S16x5000x80.Idx → EReal := m ((c : Thread nD τ).loc main_arg0)
abbrev arg1 (c : Dev nD) : S16x5000x4.Idx → EReal := m ((c : Thread nD τ).loc main_arg1)
abbrev arg2 (c : Dev nD) : S16x2.Idx → BitVec 32 := m ((c : Thread nD τ).loc main_arg2)

theorem scores0_eq (c : Dev nD) : scores0 (V1 m) c = flat (arg0 m c) := by
  unfold scores0 flat
  rw [show V1 m c main_arg0 = m ((c : Thread nD τ).loc main_arg0) from W1_args m c main_arg0 (by decide)]

theorem V2_picks (c : Dev nD) : V2 m c main_v2_0 = picks (flat (arg0 m c)) := by
  rw [← scores0_eq]
  exact (W2_arr m c 2).trans (final2 (V1 m) c)

theorem W2_scores (c : Dev nD) : W2 m c (Proc.devRef .tc main_v2_1) = pickScores (flat (arg0 m c)) := by
  rw [← scores0_eq]
  exact (W2_arr m c 3).trans (final3 (V1 m) c)

theorem V2_boxes (c : Dev nD) : V2 m c main_arg1 = m ((c : Thread nD τ).loc main_arg1) := W2_args m c main_arg1 (by decide)

theorem V2_sizes (c : Dev nD) (b : Fin 16) (k : Fin 2) :
    (V2 m c main_v1 : Vec Ideal S16x1x2 .i32) (ix3 b 0 k) = arg2 m c (ix2 b k) := by
  have h : V2 m c main_v1 = shapeCast S16x1x2 (arg2 m c : Vec Ideal S16x2 .i32) shapeCasts_S16x2_S16x1x2 := by
    refine (W2_of m c main_v1 (by decide)).trans ?_
    dsimp only [W1, pre, hostOps0]
    after_results
    rfl
  rw [h]
  exact unit_mid_apply _ _ b k

/-- What the second call reads of the picks. -/
theorem read_pick (c : Dev nD) (b : Fin 16) (j : Fin 300) :
    (blk1 (V2 m) c 1 (pt b) : Vec Ideal S1x304x1 .i32) (ix3 0 ⟨j.val, by omega⟩ 0) = wd (top (arg0 m c) b j).val := by
  rw [blk1_1_apply, V2_picks]
  exact if_pos j.isLt

theorem W3_labels (c : Dev nD) (b : Fin 16) (j : Fin 300) :
    (W3 m c (Proc.devRef .tc main_v3_1) : Vec Ideal S16x300x1 .i32) (ix3 b j 0) = wd ((top (arg0 m c) b j).val % 80) := by
  rw [show W3 m c (Proc.devRef .tc main_v3_1) = allLabels (V2 m) c from (W3_arr m c 4).trans (finalB4 (V2 m) c)]
  exact labelsOut_apply _ _ (top (arg0 m c) b j).isLt j (read_pick m c b j)

theorem W3_boxes (c : Dev nD) : W3 m c (Proc.devRef .tc main_v3_0) = boxes (arg0 m c) (arg1 m c) (arg2 m c) := by
  rw [show W3 m c (Proc.devRef .tc main_v3_0) = allBoxes (V2 m) c from (W3_arr m c 3).trans (finalB3 (V2 m) c)]
  funext y
  refine (boxesOut_apply _ _ _ _ (top (arg0 m c) (y 0) (y 1)).isLt (y 1) (read_pick m c (y 0) (y 1)) (y 2)).trans ?_
  unfold boxes
  congr 1
  · funext e
    rw [blk1_0_apply, V2_boxes]
    rfl
  · funext k
    rw [blk1_2_apply]
    exact V2_sizes m c (y 0) k

theorem W4_boxes (c : Dev nD) : W4 m c (Proc.devRef .tc main_v3_0) = boxes (arg0 m c) (arg1 m c) (arg2 m c) :=
  (W4_of m c main_v3_0 (by decide)).trans (W3_boxes m c)

theorem W4_labels (c : Dev nD) : W4 m c (Proc.devRef .tc main_v4) = labels (arg0 m c) := by
  have h : W4 m c (Proc.devRef .tc main_v4) = shapeCast S16x300 (W3 m c (Proc.devRef .tc main_v3_1) : Vec Ideal S16x300x1 .i32)
      shapeCasts_S16x300x1_S16x300 := by
    dsimp only [W4, post, hostOps2]
    after_results
    rfl
  rw [h]
  funext y
  obtain ⟨b, j, rfl⟩ : ∃ (b : Fin 16) (j : Fin 300), y = ix2 b j := ⟨y 0, y 1, eq_ix2 y⟩
  exact (unit_last_apply _ _ b j).trans (W3_labels m c b j)

theorem W4_scores (c : Dev nD) : W4 m c (Proc.devRef .tc main_v5) = scores (arg0 m c) := by
  have h : W4 m c (Proc.devRef .tc main_v5) = shapeCast S16x300 (W3 m c (Proc.devRef .tc main_v2_1) : Vec Ideal S16x300x1 .f32)
      shapeCasts_S16x300x1_S16x300 := by
    dsimp only [W4, post, hostOps2]
    after_results
    rfl
  rw [h, W3_of_ne m c main_v2_1 (by decide), W2_scores]
  funext y
  obtain ⟨b, j, rfl⟩ : ∃ (b : Fin 16) (j : Fin 300), y = ix2 b j := ⟨y 0, y 1, eq_ix2 y⟩
  exact unit_last_apply _ _ b j

/-- THE KERNEL'S RUN. -/
theorem kernel_run : θ_run defs (onTc (τ := τ) (main (F := Ideal))) ⟨m, fun _ => 0, ρ⟩ (fun r => (∀ c : Dev nD,
      r.2.mem ((c.tc : Thread nD τ).loc main_v4) = labels (arg0 m c)
      ∧ r.2.mem ((c.tc : Thread nD τ).loc main_v3_0) = boxes (arg0 m c) (arg1 m c) (arg2 m c)
      ∧ r.2.mem ((c.tc : Thread nD τ).loc main_v5) = scores (arg0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c _ (mem_uc main_v4 (by decide))).trans (W4_labels m c),
     (h.1 c _ (mem_uc main_v3_0 (by decide))).trans (W4_boxes m c),
     (h.1 c _ (mem_uc main_v5 (by decide))).trans (W4_scores m c),
     (h.1 c _ (mem_uc main_arg0 (by decide))).trans (W4_args m c main_arg0 (by decide)),
     (h.1 c _ (mem_uc main_arg1 (by decide))).trans (W4_args m c main_arg1 (by decide)),
     (h.1 c _ (mem_uc main_arg2 (by decide))).trans (W4_args m c main_arg2 (by decide))⟩, h.2⟩) (run m ρ)

end Cert.Proof.Select

end
-- ==== Proof.Select.RefTop.lean ====
/-
  THE REFERENCE'S TOP: its scores, the sort's first 300 positions and their scores, and the positions split into query
  and class.
-/
module

public import proofs.«01_k».proof.Proof.Gen.ReferenceIdeal.Run
public import proofs.«01_k».proof.Proof.Select.Results
public import Idealize.ShloMosaic.Lib.IdealHost

@[expose] public section

noncomputable section

namespace Cert.Proof.Select.Ref

open Cert.ReferenceIdeal Cert.ReferenceIdeal.Gen
open Idealize.ShloMosaic Idealize.ShloMosaic.TcCoe

variable (A0 : Vec Ideal S16x5000x80 .f32)

/-! ## The scores -/

/-- The reference's scores, flattened. -/
def flatRef : Vec Ideal S16x400000 .f32 :=
  shapeCast _ (Host.divf (broadcastInDim S16x5000x80 ![] bcast_S_S16x5000x80 (constant (F := Ideal) S_ .f32 0x3F800000#32))
    (addf (broadcastInDim S16x5000x80 ![] bcast_S_S16x5000x80 (constant S_ .f32 0x3F800000#32)) (Host.exp (Host.negf A0))))
    shapeCasts_S16x5000x80_S16x400000

theorem flatRef_apply (b : Fin 16) (i : Fin 400000) : flatRef A0 (ix2 b i) = flat A0 b i := by
  unfold flatRef
  refine (flatten_apply _ _ b i).trans ?_
  show Ideal.div (Ideal.ofBits .f32 0x3F800000#32) (Ideal.ofBits .f32 0x3F800000#32 + Ideal.exp (-(A0 (ix3 b (qOf i) (cOf i))))) = _
  rw [Ideal.ofBits_one_f32]
  rfl

/-! ## The first positions of a row's sort -/

section Rows

variable {R n k : ℕ} (hk : k ≤ n) (X : (⟨2, ![R, n]⟩ : Shape).Idx → EReal)

theorem along_row (b : Fin R) (i i' : Fin n) : (ix2 b i : (⟨2, ![R, n]⟩ : Shape).Idx).along 1 i' = ix2 b i' := by
  funext a
  match a with
  | ⟨0, _⟩ => rfl
  | ⟨1, _⟩ => rfl

/-- The comparison of the sort, along the row of an index. -/
theorem gt_row (b : Fin R) (i : Fin n) (a a' : Fin n) :
    (FloatOps.cmpfTotal (F := Ideal) (φ := .f32) .gt (X ((ix2 b i : (⟨2, ![R, n]⟩ : Shape).Idx).along 1 a))
        (X ((ix2 b i : (⟨2, ![R, n]⟩ : Shape).Idx).along 1 a')) == 1#1) = gtAt (fun i => X (ix2 b i)) a a' := by
  rw [along_row, along_row]
  unfold gtAt
  show (BitVec.ofBool (decide (X (ix2 b a') < X (ix2 b a))) == 1#1) = decide (X (ix2 b a') < X (ix2 b a))
  cases decide (X (ix2 b a') < X (ix2 b a)) <;> rfl

/-- The sort of an index's row. -/
theorem sort_row (b : Fin R) (i : Fin n) :
    sortedFrom (fun a a' : Fin n => FloatOps.cmpfTotal (F := Ideal) (φ := .f32) .gt (X ((ix2 b i : (⟨2, ![R, n]⟩ : Shape).Idx).along 1 a))
        (X ((ix2 b i : (⟨2, ![R, n]⟩ : Shape).Idx).along 1 a')) == 1#1) i = pick (fun i => X (ix2 b i)) i :=
  congrArg (fun B => sortedFrom B i) (funext fun a => funext fun a' => gt_row X b i a a')

variable (h : (⟨2, ![R, n]⟩ : Shape).Slices (fun _ => 0) ⟨2, ![R, k]⟩) (b : Fin R) (j : Fin k)

/-- Where an index of the cut stands in the whole. -/
theorem cut_row : (fun a => ⟨0 + ((ix2 b j : (⟨2, ![R, k]⟩ : Shape).Idx) (a.cast h.1.symm)).val,
      Nat.lt_of_lt_of_le (Nat.add_lt_add_left ((ix2 b j : (⟨2, ![R, k]⟩ : Shape).Idx) _).isLt _) (h.2 a)⟩ :
    (⟨2, ![R, n]⟩ : Shape).Idx) = ix2 b ⟨j.val, j.isLt.trans_le hk⟩ := by
  funext a
  match a with
  | ⟨0, _⟩ => exact Fin.ext (Nat.zero_add _)
  | ⟨1, _⟩ => exact Fin.ext (Nat.zero_add _)

theorem topK_values : (Host.topK (⟨2, ![R, k]⟩ : Shape) 1 (FloatOps.cmpfTotal (F := Ideal) (φ := .f32) .gt) X h).1 (ix2 b j)
    = X (ix2 b (pick (fun i => X (ix2 b i)) ⟨j.val, j.isLt.trans_le hk⟩)) := by
  unfold Host.topK Host.sort2 extractStridedSlice
  dsimp only
  rw [dif_pos (show 1 < (⟨2, ![R, n]⟩ : Shape).rank from Nat.one_lt_two), cut_row hk h b j]
  dsimp only
  refine (congrArg X (along_row b _ _)).trans ?_
  exact congrArg (fun i => X (ix2 b i)) (sort_row X b ⟨j.val, j.isLt.trans_le hk⟩)

theorem topK_positions : (Host.topK (⟨2, ![R, k]⟩ : Shape) 1 (FloatOps.cmpfTotal (F := Ideal) (φ := .f32) .gt) X h).2 (ix2 b j)
    = wd (pick (fun i => X (ix2 b i)) ⟨j.val, j.isLt.trans_le hk⟩).val := by
  unfold Host.topK Host.sort2 extractStridedSlice
  dsimp only
  rw [dif_pos (show 1 < (⟨2, ![R, n]⟩ : Shape).rank from Nat.one_lt_two), cut_row hk h b j]
  dsimp only
  rw [dif_pos (show 1 < (⟨2, ![R, n]⟩ : Shape).rank from Nat.one_lt_two)]
  exact congrArg (fun i : Fin n => wd i.val) (sort_row X b ⟨j.val, j.isLt.trans_le hk⟩)

end Rows

/-- The first 300 of the reference's sort, scores and positions. -/
def topRef : Vec Ideal S16x300 .f32 × IVec S16x300 32 :=
  Host.topK S16x300 1 (FloatOps.cmpfTotal (F := Ideal) (φ := .f32) .gt) (flatRef A0) sliceFits_S16x400000_S16x300

theorem flatRef_row (b : Fin 16) : (fun i => flatRef A0 (ix2 b i)) = flat A0 b := funext (flatRef_apply A0 b)

theorem scores_ref : (topRef A0).1 = scores A0 := by
  funext y
  obtain ⟨b, j, rfl⟩ : ∃ (b : Fin 16) (j : Fin 300), y = ix2 b j := ⟨y 0, y 1, eq_ix2 y⟩
  refine (topK_values (by omega) _ _ b j).trans ?_
  rw [flatRef_row]
  exact flatRef_apply A0 b _

theorem positions_ref (b : Fin 16) (j : Fin 300) : (topRef A0).2 (ix2 b j) = wd (top A0 b j).val := by
  refine (topK_positions (by omega) _ _ b j).trans ?_
  rw [flatRef_row]
  rfl

end Cert.Proof.Select.Ref

end
-- ==== Proof.Select.RefSplit.lean ====
/-
  THE REFERENCE'S SPLIT of a position into query and class: its remainder and its floored quotient by 80, which are the
  plain ones of a position, since no position is negative.
-/
module

public import proofs.«01_k».proof.Proof.Select.RefTop

@[expose] public section

noncomputable section

namespace Cert.Proof.Select.Ref

open Cert.ReferenceIdeal Cert.ReferenceIdeal.Gen
open Idealize.ShloMosaic Idealize.ShloMosaic.TcCoe

variable (I : IVec S16x300 32)

/-- The divisor: 80, or 1 in place of a zero. -/
def divisor : IVec S_ 32 :=
  select (cmpi .eq (id (constantI S_ 32 80#32)) (constantI S_ 32 0#32)) (constantI S_ 32 1#32) (id (constantI S_ 32 80#32))

/-- The remainder, its sign put right. -/
def modRef : IVec S16x300 32 :=
  select (andi (cmpi .ne (cmpi .slt (Host.remsi I (broadcastInDim S16x300 ![] bcast_S_S16x300 divisor))
        (broadcastInDim S16x300 ![] bcast_S_S16x300 (constantI S_ 32 0#32)))
      (broadcastInDim S16x300 ![] bcast_S_S16x300 (cmpi .slt divisor (constantI S_ 32 0#32))))
    (cmpi .ne (Host.remsi I (broadcastInDim S16x300 ![] bcast_S_S16x300 divisor))
      (broadcastInDim S16x300 ![] bcast_S_S16x300 (constantI S_ 32 0#32))))
    (addi (Host.remsi I (broadcastInDim S16x300 ![] bcast_S_S16x300 divisor)) (broadcastInDim S16x300 ![] bcast_S_S16x300 divisor))
    (Host.remsi I (broadcastInDim S16x300 ![] bcast_S_S16x300 divisor))

/-- The quotient, floored. -/
def quoRef : IVec S16x300 32 :=
  select (andi (cmpi .ne (signi I) (broadcastInDim S16x300 ![] bcast_S_S16x300 (signi (id (constantI S_ 32 80#32)))))
      (cmpi .ne (Host.remsi I (broadcastInDim S16x300 ![] bcast_S_S16x300 (id (constantI S_ 32 80#32))))
        (broadcastInDim S16x300 ![] bcast_S_S16x300 (constantI S_ 32 0#32))))
    (subi (Host.divsi I (broadcastInDim S16x300 ![] bcast_S_S16x300 (id (constantI S_ 32 80#32))))
      (broadcastInDim S16x300 ![] bcast_S_S16x300 (constantI S_ 32 1#32)))
    (Host.divsi I (broadcastInDim S16x300 ![] bcast_S_S16x300 (id (constantI S_ 32 80#32))))

theorem modRef_apply (n : ℕ) (hn : n < 400000) (y : S16x300.Idx) (hy : I y = wd n) : modRef I y = wd (n % 80) := by
  have hd : IntOp.remsi .host (I y) 80#32 = wd (n % 80) := by rw [hy]; exact rem_wd n hn _
  show Scalar.select (IntOp.andi (IntOp.cmpi .ne (IntOp.cmpi .slt (IntOp.remsi .host (I y) 80#32) 0#32) 0#1)
      (IntOp.cmpi .ne (IntOp.remsi .host (I y) 80#32) 0#32))
    (IntOp.addi (IntOp.remsi .host (I y) 80#32) 80#32) (IntOp.remsi .host (I y) 80#32) = _
  rw [hd, slt_zero_wd _ (by omega), ne_self, zero_andi, select_zero]

/-- A position's sign is that of 80, unless the position is zero, when nothing is left over. -/
theorem quoRef_apply (n : ℕ) (hn : n < 400000) (y : S16x300.Idx) (hy : I y = wd n) : quoRef I y = wd (n / 80) := by
  show Scalar.select (IntOp.andi (IntOp.cmpi .ne (if I y = 0 then 0 else if (I y).msb then -1 else 1)
        (if (80#32 : BitVec 32) = 0 then 0 else if (80#32 : BitVec 32).msb then -1 else 1))
      (IntOp.cmpi .ne (IntOp.remsi .host (I y) 80#32) 0#32))
    (IntOp.subi (IntOp.divsi .host (I y) 80#32) 1#32) (IntOp.divsi .host (I y) 80#32) = _
  rw [show (if (80#32 : BitVec 32) = 0 then (0 : BitVec 32) else if (80#32 : BitVec 32).msb then -1 else 1) = 1#32 by decide,
    hy, div_wd n hn, rem_wd n hn]
  by_cases h0 : n = 0
  · subst h0
    rw [show wd (0 % 80) = 0#32 from rfl, ne_self, andi_zero, select_zero]
  · have hz : ¬ wd n = 0 := fun h => h0 (wd_inj hn (by omega) (show wd n = wd 0 from h))
    rw [if_neg hz, msb_wd n hn, if_neg Bool.false_ne_true,
      show (1 : BitVec 32) = 1#32 from rfl, ne_self, zero_andi, select_zero]

theorem labels_ref (A0 : Vec Ideal S16x5000x80 .f32) : modRef (topRef A0).2 = labels A0 := by
  funext y
  obtain ⟨b, j, rfl⟩ : ∃ (b : Fin 16) (j : Fin 300), y = ix2 b j := ⟨y 0, y 1, eq_ix2 y⟩
  exact modRef_apply _ _ (top A0 b j).isLt _ (positions_ref A0 b j)

theorem queries_ref (A0 : Vec Ideal S16x5000x80 .f32) (b : Fin 16) (j : Fin 300) :
    quoRef (topRef A0).2 (ix2 b j) = wd ((top A0 b j).val / 80) :=
  quoRef_apply _ _ (top A0 b j).isLt _ (positions_ref A0 b j)

end Cert.Proof.Select.Ref

end
-- ==== Proof.Select.RefBoxes.lean ====
/-
  THE REFERENCE'S BOXES: all of them decoded, then the picks' queries read from them.
-/
module

public import proofs.«01_k».proof.Proof.Select.RefSplit
public import Idealize.ShloMosaic.Lib.ReduceAll

@[expose] public section

noncomputable section

namespace Cert.Proof.Select.Ref

open Cert.ReferenceIdeal Cert.ReferenceIdeal.Gen
open Idealize.ShloMosaic Idealize.ShloMosaic.TcCoe Idealize.ShloMosaic.Tactic

variable (A1 : Vec Ideal S16x5000x4 .f32) (A2 : IVec S16x2 32)

/-! ## The boxes decoded -/

/-- The boxes' corners. -/
def corners : Vec Ideal S16x5000x4 .f32 :=
  concatenate S16x5000x4 2 [⟨S16x5000x2, (subf (extractStridedSlice S16x5000x2 ![0, 0, 0] A1 slices_S16x5000x4_S16x5000x2_0_0_0)
      (mulf (extractStridedSlice S16x5000x2 ![0, 0, 2] A1 slices_S16x5000x4_S16x5000x2_0_0_2)
        (broadcastInDim S16x5000x2 ![] bcast_S_S16x5000x2 (constant (F := Ideal) S_ .f32 0x3F000000#32))) : Vec Ideal S16x5000x2 .f32)⟩,
    ⟨S16x5000x2, (addf (extractStridedSlice S16x5000x2 ![0, 0, 0] A1 slices_S16x5000x4_S16x5000x2_0_0_0)
      (mulf (extractStridedSlice S16x5000x2 ![0, 0, 2] A1 slices_S16x5000x4_S16x5000x2_0_0_2)
        (broadcastInDim S16x5000x2 ![] bcast_S_S16x5000x2 (constant (F := Ideal) S_ .f32 0x3F000000#32))) : Vec Ideal S16x5000x2 .f32)⟩]
    concatenates_S16x5000x2_S16x5000x2_S16x5000x4_d2

/-- The images' sizes, twice. -/
def sizes : Vec Ideal S16x4 .f32 :=
  shapeCast _ (broadcastInDim S1x16x2x2 ![0, 1, 2, 3] bcast_S1x16x1x2_S1x16x2x2_0_1_2_3
    (shapeCast _ (sitofp (F := Ideal) .f32 A2) shapeCasts_S16x2_S1x16x1x2)) shapeCasts_S1x16x2x2_S16x4

/-- The boxes decoded. -/
def decoded : Vec Ideal S16x5000x4 .f32 :=
  mulf (F := Ideal) (φ := .f32) (corners A1) (broadcastInDim S16x5000x4 ![0, 1, 2] bcast_S16x1x4_S16x5000x4_0_1_2
    (broadcastInDim S16x1x4 ![0, 2] bcast_S16x4_S16x1x4_0_2 (sizes A2)))

theorem corners_apply (b : Fin 16) (q : Fin 5000) (e : Fin 4) : corners A1 (ix3 b q e)
    = if h : e.val < 2 then A1 (ix3 b q e) - A1 (ix3 b q ⟨2 + e.val, by omega⟩) * Ideal.ofBits FTy.f32 1056964608#32
      else A1 (ix3 b q ⟨e.val - 2, by omega⟩) + A1 (ix3 b q ⟨2 + (e.val - 2), by omega⟩) * Ideal.ofBits FTy.f32 1056964608#32 := by
  pointwise [corners]

theorem sizes_apply (b : Fin 16) (e : Fin 4) : sizes A2 (ix2 b e)
    = if h : e.val < 2 then FloatOps.sitofp (F := Ideal) FTy.f32 (A2 (ix2 b ⟨e.val, h⟩))
      else FloatOps.sitofp (F := Ideal) FTy.f32 (A2 (ix2 b ⟨e.val - 2, by omega⟩)) := by
  have h : sizes A2 (ix2 b e) = FloatOps.sitofp (F := Ideal) FTy.f32 (A2 (ix2 b ⟨e.val % 2, by omega⟩)) := by
    unfold sizes
    rw [shapeCast_apply _ _ _ (ix4 0 b ⟨e.val / 2, by omega⟩ ⟨e.val % 2, by omega⟩) (by
      rw [Shape.rowMajor_val_four, Shape.rowMajor_val_two]
      show ((0 * 16 + b.val) * 2 + e.val / 2) * 2 + e.val % 2 = b.val * 4 + e.val
      omega)]
    show shapeCast S1x16x1x2 (sitofp (F := Ideal) .f32 A2) _ (ix4 0 b 0 ⟨e.val % 2, by omega⟩) = _
    rw [shapeCast_apply _ _ _ (ix2 b ⟨e.val % 2, by omega⟩) (by
      rw [Shape.rowMajor_val_four, Shape.rowMajor_val_two]
      show b.val * 2 + e.val % 2 = ((0 * 16 + b.val) * 1 + 0) * 2 + e.val % 2
      omega)]
    rfl
  rw [h]
  split
  · simp only [Nat.mod_eq_of_lt ‹_›]
  · simp only [show e.val % 2 = e.val - 2 by omega]

theorem decoded_apply (b : Fin 16) (q : Fin 5000) (e : Fin 4) :
    decoded A1 A2 (ix3 b q e) = decode (fun e => A1 (ix3 b q e)) (fun k => A2 (ix2 b k)) e := by
  unfold decode
  rw [← corners_apply A1 b q e, ← sizes_apply A2 b e]
  pointwise [decoded]

/-! ## The picks' queries read -/

section Take
variable (D : Vec Ideal S16x5000x4 .f32) (Q : IVec S16x300 32)

/-- The queries, a negative one counted from the end. -/
def wrapped : IVec S16x300x1 32 :=
  select (cmpi .slt (broadcastInDim S16x300x1 ![0, 1] bcast_S16x300_S16x300x1_0_1 Q)
      (broadcastInDim S16x300x1 ![] bcast_S_S16x300x1 (constantI S_ 32 0#32)))
    (addi (broadcastInDim S16x300x1 ![0, 1] bcast_S16x300_S16x300x1_0_1 Q)
      (broadcastInDim S16x300x1 ![] bcast_S_S16x300x1 (constantI S_ 32 5000#32)))
    (broadcastInDim S16x300x1 ![0, 1] bcast_S16x300_S16x300x1_0_1 Q)

/-- Which queries are in range. -/
def inRange : IVec S16x300x1 1 :=
  andi (cmpi .sge (wrapped Q) (broadcastInDim S16x300x1 ![] bcast_S_S16x300x1 (constantI S_ 32 0#32)))
    (cmpi .sle (wrapped Q) (broadcastInDim S16x300x1 ![0, 1, 2] bcast_S1x1x1_S16x300x1_0_1_2
      (broadcastInDim S1x1x1 ![2] bcast_S1_S1x1x1_2 (constantI S1 32 4999#32))))

/-- The rows at the queries, a row at a query out of range filled. -/
def taken : Vec Ideal S16x300x4 .f32 :=
  select (broadcastInDim S16x300x4 ![0, 1] bcast_S16x300_S16x300x4_0_1
      (Host.reduce IntOp.andi (inRange Q) (constantI S_ 1 1#1) reducesTo_S16x300x1_S16x300_d2 h_S_))
    (Host.gather gather_S16x5000x4_S16x300x1_S16x300x4_2_1_0_0_1_2_114 D (wrapped Q))
    (broadcastInDim S16x300x4 ![] bcast_S_S16x300x4 (constant (F := Ideal) S_ .f32 0x7FC00000#32))

variable (q : Fin 16 → Fin 300 → Fin 5000) (hq : ∀ b j, Q (ix2 b j) = wd (q b j).val)

include hq in
theorem wrapped_apply (b : Fin 16) (j : Fin 300) (u : Fin 1) : wrapped Q (ix3 b j u) = wd (q b j).val := by
  have h : broadcastInDim S16x300x1 ![0, 1] bcast_S16x300_S16x300x1_0_1 Q (ix3 b j u) = wd (q b j).val := by
    rw [← hq b j]; pointwise
  show Scalar.select (IntOp.cmpi .slt (broadcastInDim S16x300x1 ![0, 1] bcast_S16x300_S16x300x1_0_1 Q (ix3 b j u)) 0#32) _
    (broadcastInDim S16x300x1 ![0, 1] bcast_S16x300_S16x300x1_0_1 Q (ix3 b j u)) = _
  rw [h, slt_zero_wd _ (by omega), select_zero]

include hq in
theorem inRange_apply (y : S16x300x1.Idx) : inRange Q y = 1#1 := by
  obtain ⟨b, j, u, rfl⟩ : ∃ (b : Fin 16) (j : Fin 300) (u : Fin 1), y = ix3 b j u := ⟨y 0, y 1, y 2, eq_ix3 y⟩
  show IntOp.andi (IntOp.cmpi .sge (wrapped Q (ix3 b j u)) 0#32) (IntOp.cmpi .sle (wrapped Q (ix3 b j u)) 4999#32) = 1#1
  rw [wrapped_apply Q q hq]
  have h := toInt_wd (q b j).val (by omega)
  have hle := (q b j).isLt
  have h0 : IntOp.cmpi .sge (wd (q b j).val) 0#32 = 1#1 := by
    show BitVec.ofBool (BitVec.sle 0#32 (wd (q b j).val)) = 1#1
    rw [show BitVec.sle 0#32 (wd (q b j).val) = true by
      rw [BitVec.sle_eq_decide, h]; exact decide_eq_true (by simp)]
    rfl
  have h1 : IntOp.cmpi .sle (wd (q b j).val) 4999#32 = 1#1 := by
    show BitVec.ofBool (BitVec.sle (wd (q b j).val) 4999#32) = 1#1
    rw [show BitVec.sle (wd (q b j).val) 4999#32 = true by
      rw [BitVec.sle_eq_decide, h]; exact decide_eq_true (by rw [show (4999#32 : BitVec 32).toInt = 4999 by decide]; omega)]
    rfl
  rw [h0, h1]
  rfl

/-- Where the gather reads: the image, the query of the start index, the coordinate. -/
theorem gather_row (y : S16x300x1.Idx → BitVec 32) (b : Fin 16) (j : Fin 300) (e : Fin 4) (k : Fin 5000)
    (hy : y (ix3 b j 0) = wd k.val) :
    Host.gather gather_S16x5000x4_S16x300x1_S16x300x4_2_1_0_0_1_2_114 D y (ix3 b j e) = D (ix3 b k e) := by
  set d := gather_S16x5000x4_S16x300x1_S16x300x4_2_1_0_0_1_2_114 with hd
  refine congrArg D (funext fun a => Fin.ext ?_)
  show d.start (ix3 b j e) y a + d.batchCoord (ix3 b j e) a + d.offCoord (ix3 b j e) a = (ix3 b k e a).val
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · rw [d.start_batching _ _ _ (by decide), d.offCoord_eq_zero _ _ (by decide)]
    unfold GatherDims.batchCoord
    rw [dif_pos (by decide)]
    simp only [Nat.zero_add, Nat.add_zero]
    rfl
  · rw [d.batchCoord_eq_zero _ _ (by decide), d.offCoord_eq_zero _ _ (by decide)]
    unfold GatherDims.start
    rw [dif_pos (by decide)]
    have hi : d.siIdx (ix3 b j e) ⟨d.startIndexMap.idxOf 1, by decide⟩ = ix3 b j 0 := by
      funext c
      refine Fin.ext ?_
      match c with
      | ⟨0, _⟩ => rfl
      | ⟨1, _⟩ => rfl
      | ⟨2, _⟩ => rfl
    rw [hi, hy, toInt_wd k.val (by omega)]
    show min k.val 4999 = k.val
    omega
  · rw [d.batchCoord_eq_zero _ _ (by decide)]
    unfold GatherDims.start
    rw [dif_neg (by decide)]
    simp only [Nat.zero_add]
    rfl

include hq in
theorem taken_apply (b : Fin 16) (j : Fin 300) (e : Fin 4) : taken D Q (ix3 b j e) = D (ix3 b (q b j) e) := by
  have h : broadcastInDim S16x300x4 ![0, 1] bcast_S16x300_S16x300x4_0_1
      (Host.reduce IntOp.andi (inRange Q) (constantI S_ 1 1#1) reducesTo_S16x300x1_S16x300_d2 h_S_) (ix3 b j e) = 1#1 :=
    Host.reduce_andi_one _ _ _ _ _ rfl (inRange_apply Q q hq)
  show Scalar.select _ _ _ = _
  rw [h]
  exact gather_row D _ b j e _ (wrapped_apply Q q hq b j 0)

end Take

theorem boxes_ref (A0 : Vec Ideal S16x5000x80 .f32) : taken (decoded A1 A2) (quoRef (topRef A0).2) = boxes A0 A1 A2 := by
  funext y
  obtain ⟨b, j, e, rfl⟩ : ∃ (b : Fin 16) (j : Fin 300) (e : Fin 4), y = ix3 b j e := ⟨y 0, y 1, y 2, eq_ix3 y⟩
  exact (taken_apply _ _ (fun b j => qOf (top A0 b j)) (queries_ref A0) b j e).trans (decoded_apply A1 A2 b _ e)

end Cert.Proof.Select.Ref

end
-- ==== Proof.lean ====
/-
  THE CLAIM: the kernel and the reference each run, leave their arguments as they were and come to rest; and on equal
  arguments they end with the same labels, boxes and scores.
-/
module

public import proofs.«01_k».proof.Defs
public import proofs.«01_k».proof.Proof.Select.RefBoxes
public import Idealize.ShloMosaic.Lib.Quiescent

@[expose] public section

noncomputable section

namespace Cert.Proof

open Idealize.ShloMosaic Idealize.ShloMosaic.TcCoe Idealize.SL.Sem
open Cert.Proof.Select

/-- The kernel's run, its results forgotten. -/
theorem quiescent_kernel : Cert.quiescent_KernelIdeal (hKernelIdeal := Cert.KernelIdeal.Gen.facts) := fun m g _ =>
  (θ_run _ _ _).mono (fun _ h => ⟨fun c => (h.1 c).2.2.2, h.2⟩) (kernel_run m g)

section Reference

open Cert.ReferenceIdeal Cert.ReferenceIdeal.Gen

/-- The reference's run, its results forgotten. -/
theorem quiescent_reference : Cert.quiescent_ReferenceIdeal (hReferenceIdeal := Cert.ReferenceIdeal.Gen.facts) := fun m g _ =>
  (θ_run _ _ _).mono (fun r h => ⟨fun c => (h c).2.2.2, sem_eq_zero_of_no_sems (by decide) r.2⟩) (Value.run (F := Ideal) m g)

/-- The reference's run. -/
theorem reference_run (m : (ℓ : Loc nD τ sig) → Buf (Elt Ideal) ℓ) (ρ : Dev nD → PrngReg)
    (A0 : Dev nD → Vec Ideal S16x5000x80 .f32) (A1 : Dev nD → Vec Ideal S16x5000x4 .f32) (A2 : Dev nD → IVec S16x2 32)
    (h0 : ∀ c : Dev nD, m ((c.tc : Thread nD τ).loc main_arg0) = A0 c)
    (h1 : ∀ c : Dev nD, m ((c.tc : Thread nD τ).loc main_arg1) = A1 c)
    (h2 : ∀ c : Dev nD, m ((c.tc : Thread nD τ).loc main_arg2) = A2 c) :
    θ_run defs (onTc (τ := τ) (main (F := Ideal))) ⟨m, fun _ => 0, ρ⟩ (fun r => ∀ c : Dev nD,
      r.2.mem ((c.tc : Thread nD τ).loc main_v23) = labels (A0 c)
      ∧ r.2.mem ((c.tc : Thread nD τ).loc main_v26) = boxes (A0 c) (A1 c) (A2 c)
      ∧ r.2.mem ((c.tc : Thread nD τ).loc main_values) = scores (A0 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono (fun r h c => ?_) (Value.run (F := Ideal) m ρ)
  obtain ⟨hl, hb, hs, hargs⟩ := h c
  refine ⟨hl.trans ?_, hb.trans ?_, hs.trans ?_, hargs⟩
  · rw [← Ref.labels_ref, ← h0 c]
    rfl
  · rw [← Ref.boxes_ref, ← h0 c, ← h1 c, ← h2 c]
    rfl
  · rw [← Ref.scores_ref, ← h0 c]
    rfl

end Reference

/-- The kernel and the reference end with the same results. -/
theorem algebraic : Cert.algebraic_KernelIdeal_ReferenceIdeal (hKernelIdeal := Cert.KernelIdeal.Gen.facts)
    (hReferenceIdeal := Cert.ReferenceIdeal.Gen.facts) := fun m g m' g' _ hag =>
  ⟨fun c => labels (arg0 m c), fun c => boxes (arg0 m c) (arg1 m c) (arg2 m c), fun c => scores (arg0 m c),
    (θ_run _ _ _).mono (fun _ h => h.1) (kernel_run m g),
    reference_run m' g' (fun c => arg0 m c) (fun c => arg1 m c) (fun c => arg2 m c) (fun c => (hag c).1) (fun c => (hag c).2.1)
      (fun c => (hag c).2.2)⟩

/-- Everything claimed. -/
theorem claim : Cert.Claim :=
  ⟨Cert.KernelIdeal.Gen.facts, Cert.ReferenceIdeal.Gen.facts, quiescent_kernel, quiescent_reference, algebraic⟩

end Cert.Proof

end
